-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_per_group [hPre_two_per_group : Cert.Pre_two_per_group.Facts] (m : (ℓ : Loc Cert.KernelIdeal.nD Cert.KernelIdeal.τ Cert.KernelIdeal.sig) → Buf (Elt Ideal) ℓ) : Prop :=
  ∀ c : Dev Cert.KernelIdeal.nD,
    (Cert.Pre_two_per_group.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_per_group [hPre_two_per_group : Cert.Pre_two_per_group.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_per_group.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_two_per_group [hKernelIdeal : Cert.KernelIdeal.Facts] [hPre_two_per_group : Cert.Pre_two_per_group.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_per_group m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_two_per_group [hReferenceIdeal : Cert.ReferenceIdeal.Facts] [hPre_two_per_group : Cert.Pre_two_per_group.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_per_group m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_two_per_group [hKernelIdeal : Cert.KernelIdeal.Facts] [hReferenceIdeal : Cert.ReferenceIdeal.Facts] [hPre_two_per_group : Cert.Pre_two_per_group.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_per_group m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_two_per_group : Cert.Pre_two_per_group.Facts),
    quiescent_Kernel (hKernel := hKernel)
    ∧ quiescent_KernelIdeal (hKernelIdeal := hKernelIdeal)
    ∧ quiescent_KernelIdeal_pre_two_per_group (hKernelIdeal := hKernelIdeal) (hPre_two_per_group := hPre_two_per_group)
    ∧ quiescent_ReferenceIdeal (hReferenceIdeal := hReferenceIdeal)
    ∧ quiescent_ReferenceIdeal_pre_two_per_group (hReferenceIdeal := hReferenceIdeal) (hPre_two_per_group := hPre_two_per_group)
    ∧ preserves_Kernel_KernelIdeal
    ∧ algebraic_KernelIdeal_ReferenceIdeal_pre_two_per_group (hKernelIdeal := hKernelIdeal) (hReferenceIdeal := hReferenceIdeal) (hPre_two_per_group := hPre_two_per_group)
-- ==== Pre_two_per_group.lean ====
abbrev S4096x128 : Shape := ⟨2, ![4096, 128]⟩
abbrev S100000x128 : Shape := ⟨2, ![100000, 128]⟩
abbrev S4096x100000 : Shape := ⟨2, ![4096, 100000]⟩
abbrev S4096x10 : Shape := ⟨2, ![4096, 10]⟩
abbrev S4096x1 : Shape := ⟨2, ![4096, 1]⟩
abbrev S4096 : Shape := ⟨1, ![4096]⟩
abbrev S_ : Shape := ⟨0, ![]⟩
abbrev S4096x106496 : Shape := ⟨2, ![4096, 106496]⟩
abbrev S4096x13x64x128 : Shape := ⟨4, ![4096, 13, 64, 128]⟩
abbrev S4096x13x128 : Shape := ⟨3, ![4096, 13, 128]⟩

class Facts : Prop where
  sliceFits_S4096x100000_S4096x10 : S4096x100000.Slices (fun _ => 0) S4096x10
  slices_S4096x10_S4096x1_0_9 : S4096x10.Slices ![0, 9] S4096x1
  shapeCasts_S4096x1_S4096 : S4096x1.ShapeCasts S4096
  pads_S4096x100000_S4096x106496_000_064960 : S4096x100000.Pads (![0, 0] : Fin 2 → Nat) ![0, 6496] ![0, 0] S4096x106496
  h_S_ : 0 < S_.numel
  shapeCasts_S4096x106496_S4096x13x64x128 : S4096x106496.ShapeCasts S4096x13x64x128
  bcast_S4096_S4096x13x64x128_0 : S4096.BroadcastsInDim S4096x13x64x128 (![0] : Fin 1 → Fin S4096x13x64x128.rank)
  natLt_1_32 : 1 < 32
  reducesTo_S4096x13x64x128_S4096x13x128_d2 : S4096x13x64x128.ReducesTo [2] S4096x13x128
  bcast_S_S4096x13x64x128 : S_.BroadcastsInDim S4096x13x64x128 (![] : Fin 0 → Fin S4096x13x64x128.rank)
  bcast_S_S4096x13x128 : S_.BroadcastsInDim S4096x13x128 (![] : Fin 0 → Fin S4096x13x128.rank)
  bcast_S4096_S4096x13x128_0 : S4096.BroadcastsInDim S4096x13x128 (![0] : Fin 1 → Fin S4096x13x128.rank)
  dot_S4096x128_S100000x128_S4096x100000_1_1_0_0_n_n_wf : DotDims.WF S4096x128 S100000x128 S4096x100000 [1] [1] [0] [0] [] []

variable [Facts]

def dot_S4096x128_S100000x128_S4096x100000_1_1_0_0_n_n : DotDims S4096x128 S100000x128 S4096x100000 where
  lhsContracting := [1]
  rhsContracting := [1]
  lhsNonContracting := [0]
  rhsNonContracting := [0]
  lhsBatch := []
  rhsBatch := []
  wf := dot_S4096x128_S100000x128_S4096x100000_1_1_0_0_n_n_wf
def fn_part1 {F : FTy → Type} [FloatOps F] (main_v2 : FVec F S4096 .f32) (main_v8 : IVec S4096x13x128 32) (main_v9 : FVec F S4096x13x128 .f32) (main_v12 : FVec F S4096x13x128 .f32) (main_v14 : IVec S4096x13x128 1) (main_c_4 : IVec S_ 32) : IVec S4096x13x128 1 :=
  let main_v15 : IVec S4096x13x128 32 := broadcastInDim S4096x13x128 ![] bcast_S_S4096x13x128 main_c_4
  let main_v16 : IVec S4096x13x128 1 := cmpi .eq main_v8 main_v15
  let main_v17 : FVec F S4096x13x128 .f32 := broadcastInDim S4096x13x128 ![0] bcast_S4096_S4096x13x128_0 main_v2
  let main_cst_5 : FVec F S_ .f32 := constant S_ .f32 0x00000000#32
  let main_v18 : FVec F S4096x13x128 .f32 := broadcastInDim S4096x13x128 ![] bcast_S_S4096x13x128 main_cst_5
  let main_v19 : IVec S4096x13x128 1 := cmpf .ogt main_v17 main_v18
  let main_v20 : IVec S4096x13x128 1 := cmpf .olt main_v12 main_v9
  let main_v21 : IVec S4096x13x128 1 := andi main_v16 main_v20
  let main_v22 : IVec S4096x13x128 1 := ori main_v14 main_v21
  let main_v23 : IVec S4096x13x128 1 := andi main_v19 main_v22
  main_v23

def fn {F : FTy → Type} [FloatOps F] (main_arg0 : FVec F S4096x128 .f32) (main_arg1 : FVec F S100000x128 .f32) : IVec S4096x13x128 1 :=
  let main_v0 : FVec F S4096x100000 .f32 := (fun l r => Host.dotGeneral dot_S4096x128_S100000x128_S4096x100000_1_1_0_0_n_n none l r) main_arg0 main_arg1
  let main_values : FVec F S4096x10 .f32 := (fun x => (Host.topK S4096x10 1 (FloatOps.cmpfTotal .gt) x sliceFits_S4096x100000_S4096x10).1) main_v0
  let main_indices : IVec S4096x10 32 := (fun x => (Host.topK S4096x10 1 (FloatOps.cmpfTotal .gt) x sliceFits_S4096x100000_S4096x10).2) main_v0
  let main_v1 : FVec F S4096x1 .f32 := (extractStridedSlice S4096x1 ![0, 9] · slices_S4096x10_S4096x1_0_9) main_values
  let main_v2 : FVec F S4096 .f32 := shapeCast S4096 main_v1 shapeCasts_S4096x1_S4096
  let main_cst : FVec F S_ .f32 := constant S_ .f32 0xFF800000#32
  let main_v3 : FVec F S4096x106496 .f32 := (fun x v => pad S4096x106496 ![0, 0] ![0, 6496] ![0, 0] x v pads_S4096x100000_S4096x106496_000_064960 h_S_) main_v0 main_cst
  let main_v4 : FVec F S4096x13x64x128 .f32 := shapeCast S4096x13x64x128 main_v3 shapeCasts_S4096x106496_S4096x13x64x128
  let main_v5 : FVec F S4096x13x64x128 .f32 := broadcastInDim S4096x13x64x128 ![0] bcast_S4096_S4096x13x64x128_0 main_v2
  let main_v6 : IVec S4096x13x64x128 1 := cmpf .oge main_v4 main_v5
  let main_v7 : IVec S4096x13x64x128 32 := (extui 32 · natLt_1_32) main_v6
  let main_c : IVec S_ 32 := constantI S_ 32 0#32
  let main_v8 : IVec S4096x13x128 32 := (fun x v => Host.reduce IntOp.addi x v reducesTo_S4096x13x64x128_S4096x13x128_d2 h_S_) main_v7 main_c
  let main_cst_0 : FVec F S_ .f32 := constant S_ .f32 0xFF800000#32
  let main_v9 : FVec F S4096x13x128 .f32 := (fun x v => Host.reduce FloatOps.maximumf x v reducesTo_S4096x13x64x128_S4096x13x128_d2 h_S_) main_v4 main_cst_0
  let main_cst_1 : FVec F S_ .f32 := constant S_ .f32 0x7F800000#32
  let main_v10 : FVec F S4096x13x64x128 .f32 := broadcastInDim S4096x13x64x128 ![] bcast_S_S4096x13x64x128 main_cst_1
  let main_v11 : FVec F S4096x13x64x128 .f32 := select main_v6 main_v4 main_v10
  let main_cst_2 : FVec F S_ .f32 := constant S_ .f32 0x7F800000#32
  let main_v12 : FVec F S4096x13x128 .f32 := (fun x v => Host.reduce FloatOps.minimumf x v reducesTo_S4096x13x64x128_S4096x13x128_d2 h_S_) main_v11 main_cst_2
  let main_c_3 : IVec S_ 32 := constantI S_ 32 1#32
  let main_v13 : IVec S4096x13x128 32 := broadcastInDim S4096x13x128 ![] bcast_S_S4096x13x128 main_c_3
  let main_v14 : IVec S4096x13x128 1 := cmpi .sle main_v8 main_v13
  let main_c_4 : IVec S_ 32 := constantI S_ 32 2#32
  fn_part1 (F := F) main_v2 main_v8 main_v9 main_v12 main_v14 main_c_4
-- ==== Kernel.lean ====
abbrev S4096x128 : Shape := ⟨2, ![4096, 128]⟩
abbrev S100000x128 : Shape := ⟨2, ![100000, 128]⟩
abbrev S_ : Shape := ⟨0, ![]⟩
abbrev S106496x128 : Shape := ⟨2, ![106496, 128]⟩
abbrev S4096x4992 : Shape := ⟨2, ![4096, 4992]⟩
abbrev S512x128 : Shape := ⟨2, ![512, 128]⟩
abbrev S8192x128 : Shape := ⟨2, ![8192, 128]⟩
abbrev S512x384 : Shape := ⟨2, ![512, 384]⟩
abbrev S512x8192 : Shape := ⟨2, ![512, 8192]⟩
abbrev S512x64x128 : Shape := ⟨3, ![512, 64, 128]⟩
abbrev S512x1x128 : Shape := ⟨3, ![512, 1, 128]⟩
abbrev S4096x10 : Shape := ⟨2, ![4096, 10]⟩
abbrev S128x4992 : Shape := ⟨2, ![128, 4992]⟩
abbrev S128x10 : Shape := ⟨2, ![128, 10]⟩
abbrev S128 : Shape := ⟨1, ![128]⟩
abbrev S128x1 : Shape := ⟨2, ![128, 1]⟩

abbrev nBuf : Space → Nat
  | .hbm => 9
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S_, .i32⟩
  | .hbm, ⟨3, _⟩ => ⟨S_, .f32⟩
  | .hbm, ⟨4, _⟩ => ⟨S106496x128, .f32⟩
  | .hbm, ⟨5, _⟩ => ⟨S4096x4992, .f32⟩
  | .hbm, ⟨6, _⟩ => ⟨S4096x4992, .i32⟩
  | .hbm, ⟨7, _⟩ => ⟨S4096x10, .f32⟩
  | .hbm, ⟨8, _⟩ => ⟨S4096x10, .i32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S512x384, .f32⟩
  | .local _ .vmem, ⟨5, _⟩ => ⟨S512x384, .f32⟩
  | .local _ .vmem, ⟨6, _⟩ => ⟨S512x384, .i32⟩
  | .local _ .vmem, ⟨7, _⟩ => ⟨S512x384, .i32⟩
  | .local _ .vmem, ⟨8, _⟩ => ⟨S128x4992, .f32⟩
  | .local _ .vmem, ⟨9, _⟩ => ⟨S128x4992, .f32⟩
  | .local _ .vmem, ⟨10, _⟩ => ⟨S128x4992, .i32⟩
  | .local _ .vmem, ⟨11, _⟩ => ⟨S128x4992, .i32⟩
  | .local _ .vmem, ⟨12, _⟩ => ⟨S128x10, .f32⟩
  | .local _ .vmem, ⟨13, _⟩ => ⟨S128x10, .f32⟩
  | .local _ .vmem, ⟨14, _⟩ => ⟨S128x10, .i32⟩
  | .local _ .vmem, ⟨15, _⟩ => ⟨S128x10, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4992 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4992 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x10 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4096x128 : Shape := ⟨2, ![4096, 128]⟩
abbrev S100000x128 : Shape := ⟨2, ![100000, 128]⟩
abbrev S128x100000 : Shape := ⟨2, ![128, 100000]⟩
abbrev S4096x100000 : Shape := ⟨2, ![4096, 100000]⟩
abbrev S4096x10 : Shape := ⟨2, ![4096, 10]⟩
abbrev S100000 : Shape := ⟨1, ![100000]⟩
abbrev S_ : Shape := ⟨0, ![]⟩
abbrev S4096x10x1 : Shape := ⟨3, ![4096, 10, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S128x100000, .f32⟩
  | .hbm, ⟨3, _⟩ => ⟨S4096x100000, .f32⟩
  | .hbm, ⟨4, _⟩ => ⟨S4096x10, .f32⟩
  | .hbm, ⟨5, _⟩ => ⟨S4096x10, .i32⟩
  | .hbm, ⟨6, _⟩ => ⟨S100000, .i32⟩
  | .hbm, ⟨7, _⟩ => ⟨S_, .i32⟩
  | .hbm, ⟨8, _⟩ => ⟨S4096x10, .i32⟩
  | .hbm, ⟨9, _⟩ => ⟨S4096x10, .i1⟩
  | .hbm, ⟨10, _⟩ => ⟨S_, .i32⟩
  | .hbm, ⟨11, _⟩ => ⟨S4096x10, .i32⟩
  | .hbm, ⟨12, _⟩ => ⟨S4096x10, .i32⟩
  | .hbm, ⟨13, _⟩ => ⟨S4096x10, .i32⟩
  | .hbm, ⟨14, _⟩ => ⟨S4096x10x1, .i32⟩
  | .hbm, ⟨15, _⟩ => ⟨S1, .i32⟩
  | .hbm, ⟨16, _⟩ => ⟨S_, .i32⟩
  | .hbm, ⟨17, _⟩ => ⟨S4096x10x1, .i32⟩
  | .hbm, ⟨18, _⟩ => ⟨S4096x10x1, .i1⟩
  | .hbm, ⟨19, _⟩ => ⟨S1x1x1, .i32⟩
  | .hbm, ⟨20, _⟩ => ⟨S4096x10x1, .i32⟩
  | .hbm, ⟨21, _⟩ => ⟨S4096x10x1, .i1⟩
  | .hbm, ⟨22, _⟩ => ⟨S4096x10x1, .i1⟩
  | .hbm, ⟨23, _⟩ => ⟨S_, .i1⟩
  | .hbm, ⟨24, _⟩ => ⟨S4096x10, .i1⟩
  | .hbm, ⟨25, _⟩ => ⟨S4096x10, .i32⟩
  | .hbm, ⟨26, _⟩ => ⟨S_, .i32⟩
  | .hbm, ⟨27, _⟩ => ⟨S4096x10, .i32⟩
  | .hbm, ⟨28, _⟩ => ⟨S4096x10, .i32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_c_4 : Ref sig .tc := ⟨.hbm, 26, rfl⟩
abbrev main_call0_v14 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.Order.lean ====
/-
  The order that both programs select by, and one round of selection on a row of numbered scores.

  `Before s a b` says that candidate `a` comes before candidate `b`: its score is greater, or the scores are equal and its
  number is lower. `Best s σ` says that `σ` lists the first candidates in that order. A round takes a row's maximum, the
  lowest number that stands beside it, and erases every entry with that number; `rounds_spec` says that rounds on a row that
  holds, of the candidates reaching `t`, all and nothing else, list the same candidates.
-/
module

public import Idealize.ShloMosaic.PureOps.Reduce
public import Idealize.ShloMosaic.PureOps.Ideal.Laws
public import Mathlib.Data.Finset.Fold
public import Mathlib.Data.EReal.Basic

@[expose] public section

noncomputable section

namespace Cert.Knn

open Idealize.ShloMosaic

/-! ## The order, and the list of the first candidates in it -/

/-- Candidate `a` comes before candidate `b`: a greater score, or the same score and a lower number. -/
def Before {n : ℕ} (s : Fin n → EReal) (a b : Fin n) : Prop := s b < s a ∨ (s a = s b ∧ a < b)

theorem Before.le {n : ℕ} {s : Fin n → EReal} {a b : Fin n} (h : Before s a b) : s b ≤ s a :=
  h.elim le_of_lt fun e => e.1.ge

/-- `σ` lists the first `k` candidates in order: each before the next ones, and before every candidate left out. -/
structure Best {n k : ℕ} (s : Fin n → EReal) (σ : Fin k → Fin n) : Prop where
  ordered : ∀ i j : Fin k, i < j → Before s (σ i) (σ j)
  rest : ∀ (i : Fin k) (p : Fin n), (∀ j, σ j ≠ p) → Before s (σ i) p

/-- A candidate that is none of the first `r` listed ones is the `r`-th, or comes after it. -/
theorem Best.eq_or_before {n k : ℕ} {s : Fin n → EReal} {σ : Fin k → Fin n} (h : Best s σ) (r : Fin k) (p : Fin n)
    (hp : ∀ j, j < r → σ j ≠ p) : p = σ r ∨ Before s (σ r) p := by
  by_cases hm : ∃ j, σ j = p
  · obtain ⟨j, rfl⟩ := hm
    rcases lt_trichotomy j r with hj | hj | hj
    · exact absurd rfl (hp j hj)
    · exact Or.inl (by rw [hj])
    · exact Or.inr (h.ordered r j hj)
  · exact Or.inr (h.rest r p fun j e => hm ⟨j, e⟩)

/-- Scores fall along the list. -/
theorem Best.antitone {n k : ℕ} {s : Fin n → EReal} {σ : Fin k → Fin n} (h : Best s σ) (i j : Fin k) (hij : i ≤ j) :
    s (σ j) ≤ s (σ i) := by
  rcases lt_or_eq_of_le hij with hlt | rfl
  · exact (h.ordered i j hlt).le
  · exact le_rfl

/-- The list repeats no candidate. -/
theorem Best.ne {n k : ℕ} {s : Fin n → EReal} {σ : Fin k → Fin n} (h : Best s σ) (i j : Fin k) (hij : i < j) :
    σ i ≠ σ j := by
  intro e
  rcases h.ordered i j hij with hlt | ⟨-, hlt⟩
  · rw [e] at hlt; exact lt_irrefl _ hlt
  · rw [e] at hlt; exact lt_irrefl _ hlt

/-! ## Maxima and least numbers over a row -/

/-- The greatest entry of a row, −∞ if there is none. -/
def top {n : ℕ} (u : Fin n → EReal) : EReal := Finset.univ.fold max ⊥ u

theorem le_top' {n : ℕ} (u : Fin n → EReal) (c : Fin n) : u c ≤ top u :=
  (Finset.le_fold_max (u c)).mpr (Or.inr ⟨c, Finset.mem_univ c, le_rfl⟩)

theorem top_le {n : ℕ} (u : Fin n → EReal) (x : EReal) (h : ∀ c, u c ≤ x) : top u ≤ x :=
  (Finset.fold_max_le x).mpr ⟨bot_le, fun c _ => h c⟩

/-- A maximum above −∞ is one of the entries. -/
theorem exists_eq_top {n : ℕ} (u : Fin n → EReal) (h : ⊥ < top u) : ∃ c, u c = top u := by
  rcases (Finset.le_fold_max (top u)).mp (le_refl (top u)) with hb | ⟨c, -, hc⟩
  · exact absurd (lt_of_lt_of_le h hb) (lt_irrefl _)
  · exact ⟨c, le_antisymm (le_top' u c) hc⟩

/-- The least of the words `f c` as signed numbers, `b` at most. -/
def leastWord {n : ℕ} (b : BitVec 32) (f : Fin n → BitVec 32) : BitVec 32 := Finset.univ.fold IntOp.minsi b f

theorem toInt_minsi (x y : BitVec 32) : (IntOp.minsi x y).toInt = min x.toInt y.toInt := by
  unfold IntOp.minsi
  simp only [BitVec.slt, decide_eq_true_eq]
  split <;> omega

/-- A word that is one of them, and at most each of them and the bound, is the least. -/
theorem leastWord_eq {n : ℕ} (b v : BitVec 32) (f : Fin n → BitVec 32) (hb : v.toInt ≤ b.toInt) (c : Fin n) (hc : f c = v)
    (hle : ∀ d, v.toInt ≤ (f d).toInt) : leastWord b f = v := by
  have e : (Finset.univ.fold min b.toInt fun d => (f d).toInt) = (leastWord b f).toInt :=
    Finset.fold_hom (op := IntOp.minsi) (op' := min) (m := BitVec.toInt) fun x y => toInt_minsi x y
  refine BitVec.eq_of_toInt_eq (le_antisymm ?_ ?_)
  · rw [← e]; exact (Finset.fold_min_le _).mpr (Or.inr ⟨c, Finset.mem_univ c, by rw [hc]⟩)
  · rw [← e]; exact (Finset.le_fold_min _).mpr ⟨hb, fun d _ => hle d⟩

theorem toInt_ofNat_small (k : ℕ) (h : k < 2 ^ 31) : (BitVec.ofNat 32 k).toInt = (k : ℤ) := by
  rw [BitVec.toInt_eq_toNat_of_lt (by rw [BitVec.toNat_ofNat, Nat.mod_eq_of_lt (by omega)]; omega), BitVec.toNat_ofNat,
    Nat.mod_eq_of_lt (by omega)]

theorem ofNat_inj_small (k l : ℕ) (hk : k < 2 ^ 31) (hl : l < 2 ^ 31) (h : BitVec.ofNat 32 k = BitVec.ofNat 32 l) : k = l := by
  have := congrArg BitVec.toInt h
  rw [toInt_ofNat_small k hk, toInt_ofNat_small l hl] at this
  omega

/-! ## One round, and the rounds -/

/-- The number a round takes: the least beside the row's maximum. -/
def pick {n : ℕ} (w : Fin n → BitVec 32) (u : Fin n → EReal) : BitVec 32 :=
  leastWord 2147483647#32 fun c => if u c = top u then w c else 2147483647#32

/-- What a round leaves: the row with every entry of the taken number erased. -/
def erase {n : ℕ} (w : Fin n → BitVec 32) (u : Fin n → EReal) : Fin n → EReal :=
  fun c => if w c = pick w u then ⊥ else u c

/-- The row after `r` rounds. -/
def rowAfter {n : ℕ} (w : Fin n → BitVec 32) (u : Fin n → EReal) : ℕ → Fin n → EReal
  | 0 => u
  | r + 1 => erase w (rowAfter w u r)

/-- A row of scores `u` and numbers `w` that lists the candidates with property `P`: an entry that reaches `t` is such a
    candidate's score beside its number, and every such candidate that reaches `t` has an entry. -/
structure Lists {n N : ℕ} (s : Fin N → EReal) (t : EReal) (P : Fin N → Prop) (w : Fin n → BitVec 32) (u : Fin n → EReal) :
    Prop where
  sound : ∀ c, t ≤ u c → ∃ k, P k ∧ u c = s k ∧ w c = BitVec.ofNat 32 k.val
  complete : ∀ k, P k → t ≤ s k → ∃ c, u c = s k ∧ w c = BitVec.ofNat 32 k.val

section
variable {n N k : ℕ} {s : Fin N → EReal} {t : EReal} {w : Fin n → BitVec 32} {u : Fin n → EReal} {σ : Fin k → Fin N}

/-- The maximum of a row that lists the candidates from the `r`-th on is the `r`-th one's score. -/
theorem top_eq (hσ : Best s σ) (r : Fin k) (ht : t ≤ s (σ r))
    (hl : Lists s t (fun p => ∀ j, j < r → σ j ≠ p) w u) : top u = s (σ r) := by
  refine le_antisymm (top_le u _ fun c => ?_) ?_
  · rcases lt_or_ge (u c) t with hlt | hge
    · exact hlt.le.trans ht
    · obtain ⟨p, hp, hu, -⟩ := hl.sound c hge
      rw [hu]
      rcases hσ.eq_or_before r p hp with rfl | hb
      · exact le_rfl
      · exact hb.le
  · obtain ⟨c, hc, -⟩ := hl.complete (σ r) (fun j hj => hσ.ne j r hj) ht
    rw [← hc]; exact le_top' u c

/-- The number beside it is the `r`-th candidate's. -/
theorem pick_eq (hN : N < 2 ^ 31) (hσ : Best s σ) (r : Fin k) (ht : t ≤ s (σ r))
    (hl : Lists s t (fun p => ∀ j, j < r → σ j ≠ p) w u) : pick w u = BitVec.ofNat 32 (σ r).val := by
  have hm := top_eq hσ r ht hl
  have hlt : ∀ p : Fin N, p.val < 2 ^ 31 := fun p => p.isLt.trans hN
  obtain ⟨c, hc, hw⟩ := hl.complete (σ r) (fun j hj => hσ.ne j r hj) ht
  have hbound : (BitVec.ofNat 32 (σ r).val).toInt ≤ (2147483647#32).toInt := by
    rw [toInt_ofNat_small _ (hlt _), show (2147483647#32).toInt = 2147483647 by decide]
    have := hlt (σ r); omega
  refine leastWord_eq _ _ _ hbound c (by rw [if_pos (hc.trans hm.symm), hw]) fun d => ?_
  by_cases hd : u d = top u
  · rw [if_pos hd]
    rw [hm] at hd
    obtain ⟨p, hp, hu, hwd⟩ := hl.sound d (by rw [hd]; exact ht)
    rw [hwd, toInt_ofNat_small _ (hlt _), toInt_ofNat_small _ (hlt _)]
    rcases hσ.eq_or_before r p hp with rfl | hb | ⟨-, hb⟩
    · exact le_rfl
    · rw [← hu, hd] at hb; exact absurd hb (lt_irrefl _)
    · have : (σ r).val < p.val := hb
      omega
  · rw [if_neg hd]; exact hbound

/-- A round leaves a row that lists the candidates from the next one on. -/
theorem lists_erase (hN : N < 2 ^ 31) (hσ : Best s σ) (hbot : ⊥ < t) (r : Fin k) (ht : t ≤ s (σ r))
    (hl : Lists s t (fun p => ∀ j, j < r → σ j ≠ p) w u) :
    Lists s t (fun p => ∀ j, j ≤ r → σ j ≠ p) w (erase w u) := by
  have hlt : ∀ p : Fin N, p.val < 2 ^ 31 := fun p => p.isLt.trans hN
  have hp := pick_eq hN hσ r ht hl
  constructor
  · intro c hc
    unfold erase at hc ⊢
    by_cases hw : w c = pick w u
    · rw [if_pos hw] at hc; exact absurd (lt_of_lt_of_le hbot hc) (lt_irrefl _)
    · rw [if_neg hw] at hc ⊢
      obtain ⟨p, hP, hu, hwc⟩ := hl.sound c hc
      refine ⟨p, fun j hj => ?_, hu, hwc⟩
      rcases lt_or_eq_of_le hj with hj | rfl
      · exact hP j hj
      · rintro rfl; exact hw (hwc.trans hp.symm)
  · intro p hP hs
    obtain ⟨c, hu, hwc⟩ := hl.complete p (fun j hj => hP j hj.le) hs
    refine ⟨c, ?_, hwc⟩
    unfold erase
    rw [if_neg, hu]
    rw [hwc, hp]
    intro e
    exact hP r le_rfl (Fin.ext (ofNat_inj_small _ _ (hlt _) (hlt _) e).symm)

/-- After `r` rounds the row lists the candidates from the `r`-th on. -/
theorem lists_rowAfter (hN : N < 2 ^ 31) (hσ : Best s σ) (hbot : ⊥ < t) (ht : ∀ r, t ≤ s (σ r))
    (hl : Lists s t (fun _ => True) w u) (r : ℕ) (hr : r ≤ k) :
    Lists s t (fun p => ∀ j : Fin k, j.val < r → σ j ≠ p) w (rowAfter w u r) := by
  induction r with
  | zero =>
    refine ⟨fun c hc => ?_, fun p _ hp => hl.complete p trivial hp⟩
    obtain ⟨p, -, h⟩ := hl.sound c hc
    exact ⟨p, fun j hj => absurd hj (Nat.not_lt_zero _), h⟩
  | succ r ih =>
    have h := lists_erase hN hσ hbot ⟨r, hr⟩ (ht _) (ih (Nat.le_of_succ_le hr))
    have e : (fun p => ∀ j : Fin k, j.val < r + 1 → σ j ≠ p) = fun p => ∀ j, j ≤ (⟨r, hr⟩ : Fin k) → σ j ≠ p := by
      funext p
      refine propext (forall_congr' fun j => ?_)
      rw [Fin.le_def, Nat.lt_succ_iff]
    rw [e]; exact h

/-- Round `r` of a row that lists the candidates reaching `t` takes the score and the number of the `r`-th candidate. -/
theorem rounds_spec (hN : N < 2 ^ 31) (hσ : Best s σ) (hbot : ⊥ < t) (ht : ∀ r, t ≤ s (σ r))
    (hl : Lists s t (fun _ => True) w u) (r : Fin k) :
    top (rowAfter w u r.val) = s (σ r) ∧ pick w (rowAfter w u r.val) = BitVec.ofNat 32 (σ r).val :=
  have h := lists_rowAfter hN hσ hbot ht hl r.val r.isLt.le
  ⟨top_eq hσ r (ht r) h, pick_eq hN hσ r (ht r) h⟩

end

end Cert.Knn

end
-- ==== Proof.Group.lean ====
/-
  One strided group: what the shortlist keeps of the 64 scores of a group.

  `first`, `second`, `third` are the group's greatest score, the greatest after every entry equal to it is erased, and the
  greatest after the same is done again; `firstAt`, `secondAt` are the lowest places where the first two stand. `Sparse`
  is the condition on a group: at most two scores reach `t`, and two that do differ. Then the first two, where they reach
  `t`, are exactly the scores that reach `t`, each with its place, and the third does not reach `t`.
-/
module

public import proofs.«01_k».proof.Proof.Order

@[expose] public section

noncomputable section

namespace Cert.Knn

open Idealize.ShloMosaic

/-- The lowest place at which the row holds its maximum (64 if nowhere). -/
def placeOf (x : Fin 64 → EReal) : BitVec 32 :=
  leastWord 2147483647#32 fun l => if x l = top x then BitVec.ofNat 32 l.val else 64#32

/-- The row with every entry equal to its maximum erased. -/
def lower (x : Fin 64 → EReal) : Fin 64 → EReal := fun l => if x l = top x then ⊥ else x l

/-- Of the scores of a group at most two reach `t`, and no two that do are equal. -/
structure Sparse (x : Fin 64 → EReal) (t : EReal) : Prop where
  few : (Finset.univ.filter fun l => t ≤ x l).card ≤ 2
  differ : ∀ l l', t ≤ x l → t ≤ x l' → x l = x l' → l = l'

/-- The place of a maximum that stands at one place only is that place. -/
theorem placeOf_eq (x : Fin 64 → EReal) (l : Fin 64) (hl : x l = top x) (hu : ∀ l', x l' = top x → l' = l) :
    placeOf x = BitVec.ofNat 32 l.val := by
  have hb : ∀ l : Fin 64, (BitVec.ofNat 32 l.val).toInt = (l.val : ℤ) := fun l => toInt_ofNat_small _ (by omega)
  refine leastWord_eq _ _ _ ?_ l (if_pos hl) fun d => ?_
  · rw [hb, show (2147483647#32).toInt = 2147483647 by decide]; omega
  · by_cases hd : x d = top x
    · rw [if_pos hd, hu d hd]
    · rw [if_neg hd, hb, show (64#32).toInt = 64 by decide]; omega

/-- An entry that reaches `t` after the erasure was there before it, and is not the maximum. -/
theorem of_le_lower {x : Fin 64 → EReal} {t : EReal} (hbot : ⊥ < t) {l : Fin 64} (h : t ≤ lower x l) :
    lower x l = x l ∧ x l ≠ top x := by
  unfold lower at h ⊢
  by_cases e : x l = top x
  · rw [if_pos e] at h; exact absurd (lt_of_lt_of_le hbot h) (lt_irrefl _)
  · rw [if_neg e]; exact ⟨rfl, e⟩

theorem lower_of_ne {x : Fin 64 → EReal} {l : Fin 64} (h : x l ≠ top x) : lower x l = x l := if_neg h

section
variable {x : Fin 64 → EReal} {t : EReal}

/-- The greatest score, if it reaches `t`, is the score at the place noted for it. -/
theorem first_sound (hbot : ⊥ < t) (hx : Sparse x t) (h : t ≤ top x) :
    ∃ l, top x = x l ∧ placeOf x = BitVec.ofNat 32 l.val := by
  obtain ⟨l, hl⟩ := exists_eq_top x (lt_of_lt_of_le hbot h)
  refine ⟨l, hl.symm, placeOf_eq x l hl fun l' hl' => ?_⟩
  exact hx.differ l' l (by rw [hl']; exact h) (by rw [hl]; exact h) (hl'.trans hl.symm)

/-- The second, if it reaches `t`, is the score at the place noted for it. -/
theorem second_sound (hbot : ⊥ < t) (hx : Sparse x t) (h : t ≤ top (lower x)) :
    ∃ l, top (lower x) = x l ∧ placeOf (lower x) = BitVec.ofNat 32 l.val := by
  obtain ⟨l, hl⟩ := exists_eq_top (lower x) (lt_of_lt_of_le hbot h)
  have el := (of_le_lower hbot (l := l) (by rw [hl]; exact h)).1
  refine ⟨l, hl.symm.trans el, placeOf_eq (lower x) l hl fun l' hl' => ?_⟩
  have el' := (of_le_lower hbot (l := l') (by rw [hl']; exact h)).1
  exact hx.differ l' l (by rw [← el', hl']; exact h) (by rw [← el, hl]; exact h)
    (el'.symm.trans ((hl'.trans hl.symm).trans el))

/-- The third does not reach `t`. -/
theorem third_lt (hbot : ⊥ < t) (hx : Sparse x t) : top (lower (lower x)) < t := by
  by_contra hn
  have h := not_lt.mp hn
  obtain ⟨c, hc⟩ := exists_eq_top _ (lt_of_lt_of_le hbot h)
  obtain ⟨e2, n2⟩ := of_le_lower hbot (x := lower x) (l := c) (by rw [hc]; exact h)
  have t2 : t ≤ lower x c := by rw [← e2, hc]; exact h
  obtain ⟨e1, n1⟩ := of_le_lower hbot t2
  have t1 : t ≤ x c := by rw [← e1]; exact t2
  obtain ⟨a, ha⟩ := exists_eq_top x (lt_of_lt_of_le hbot (t1.trans (le_top' x c)))
  have hb2 : t ≤ top (lower x) := t2.trans (le_top' (lower x) c)
  obtain ⟨b, hb⟩ := exists_eq_top (lower x) (lt_of_lt_of_le hbot hb2)
  obtain ⟨eb, nb⟩ := of_le_lower hbot (l := b) (by rw [hb]; exact hb2)
  have ta : t ≤ x a := by rw [ha]; exact t1.trans (le_top' x c)
  have tb : t ≤ x b := by rw [← eb, hb]; exact hb2
  have hab : a ≠ b := fun e => nb (e ▸ ha)
  have hac : a ≠ c := fun e => n1 (e ▸ ha)
  have hbc : b ≠ c := fun e => n2 (e ▸ hb)
  have hcard : ({a, b, c} : Finset (Fin 64)).card = 3 := Finset.card_eq_three.mpr ⟨a, b, c, hab, hac, hbc, rfl⟩
  have hsub : ({a, b, c} : Finset (Fin 64)) ⊆ Finset.univ.filter fun l => t ≤ x l := by
    intro l hl
    rw [Finset.mem_filter]
    refine ⟨Finset.mem_univ l, ?_⟩
    simp only [Finset.mem_insert, Finset.mem_singleton] at hl
    rcases hl with rfl | rfl | rfl <;> assumption
  have := Finset.card_le_card hsub
  have := hx.few
  omega

/-- Every score that reaches `t` is the first or the second, at the place noted for it. -/
theorem complete (hbot : ⊥ < t) (hx : Sparse x t) (l : Fin 64) (hl : t ≤ x l) :
    (top x = x l ∧ placeOf x = BitVec.ofNat 32 l.val)
      ∨ (top (lower x) = x l ∧ placeOf (lower x) = BitVec.ofNat 32 l.val) := by
  by_cases h1 : x l = top x
  · obtain ⟨l', e, p⟩ := first_sound hbot hx (h1 ▸ hl)
    have : l' = l := hx.differ l' l (by rw [← e, ← h1]; exact hl) hl (by rw [← e, h1])
    subst this
    exact Or.inl ⟨e, p⟩
  · have e1 := lower_of_ne h1
    by_cases h2 : lower x l = top (lower x)
    · have ht : t ≤ top (lower x) := by rw [← h2, e1]; exact hl
      obtain ⟨l', e, p⟩ := second_sound hbot hx ht
      have : l' = l := hx.differ l' l (by rw [← e]; exact ht) hl (by rw [← e, ← h2, e1])
      subst this
      exact Or.inr ⟨e, p⟩
    · have e2 := lower_of_ne h2
      have : t ≤ top (lower (lower x)) := by
        refine le_trans ?_ (le_top' (lower (lower x)) l)
        rw [e2, e1]; exact hl
      exact absurd (third_lt hbot hx) (not_lt.mpr this)

end

end Cert.Knn

end
-- ==== Proof.ShortlistBlock.lean ====
/-
  What one block of the first kernel computes, at an index.

  The body scores 512 queries against 8192 candidates, arranges each query's scores in 128 strided groups of 64, and writes
  for each group its first, second and third greatest score and their candidates' numbers, side by side in 384 columns.
-/
module

public import proofs.«01_k».proof.Proof.Gen.KernelIdeal.Skeleton
public import proofs.«01_k».proof.Proof.Group
public import Idealize.ShloMosaic.Lib.Pointwise

@[expose] public section

set_option maxRecDepth 16384

noncomputable section

namespace Cert.Knn

open Idealize.ShloMosaic Cert.KernelIdeal Cert.KernelIdeal.Gen

/-! ## The literals and the select of a comparison -/

/-- The word the kernel erases with is −∞. -/
theorem erased_eq : Ideal.ofBits FTy.f32 0xFF800000#32 = (⊥ : EReal) := by
  simp [Ideal.ofBits, Ideal.ieee]

/-- A select by a decided bit is the `if` of the decision. -/
theorem select_ofBool {α : Type} (p : Prop) [Decidable p] (x y : α) :
    Scalar.select (BitVec.ofBool (decide p)) x y = if p then x else y := by
  by_cases h : p <;> simp [Scalar.select, h]

/-! ## The columns of a block -/

/-- The score in column `p` of a block, from the scores `y g l` of its groups: the groups' firsts, their seconds, their
    thirds. -/
def blockVal (y : Fin 128 → Fin 64 → EReal) (p : Fin 384) : EReal :=
  if h : p.val < 128 then top (y ⟨p.val, h⟩)
  else if h : p.val - 128 < 128 then top (lower (y ⟨p.val - 128, h⟩))
  else top (lower (lower (y ⟨p.val - 128 - 128, by omega⟩)))

/-- The candidate's number in column `p` of block `j`: the number of the noted place for the firsts and the seconds, and of
    the group's own first member for the thirds. -/
def blockId (j : BitVec 32) (y : Fin 128 → Fin 64 → EReal) (p : Fin 384) : BitVec 32 :=
  if h : p.val < 128 then j * 8192#32 + placeOf (y ⟨p.val, h⟩) * 128#32 + BitVec.ofNat 32 p.val
  else if h : p.val - 128 < 128 then
    j * 8192#32 + placeOf (lower (y ⟨p.val - 128, h⟩)) * 128#32 + BitVec.ofNat 32 (p.val - 128)
  else j * 8192#32 + BitVec.ofNat 32 (p.val - 128 - 128)

/-! ## The payloads at an index -/

/-- The score of candidate `l` of group `g`, for query `r` of the block. -/
def blockScore (v0 : Vec Ideal S512x128 .f32) (v1 : Vec Ideal S8192x128 .f32) (r : Fin 512) (g : Fin 128) (l : Fin 64) : EReal :=
  ∑ d : Fin 128, v0 (ix2 r d) * v1 (ix2 ⟨l.val * 128 + g.val, by omega⟩ d)

section
variable (v0 : Vec Ideal S512x128 .f32) (v1 : Vec Ideal S8192x128 .f32) (r : Fin 512)

theorem scores_at (g : Fin 128) (l : Fin 64) : k0_pay3 v0 v1 (ix3 r l g) = blockScore v0 v1 r g l := by
  pointwise [k0_pay3]
  rfl

theorem firsts_at (g : Fin 128) : k0_pay4 v0 v1 (ix2 r g) = top (blockScore v0 v1 r g) := by
  pointwise [k0_pay4]
  rw [erased_eq]
  unfold top
  exact Finset.fold_congr fun l _ => scores_at v0 v1 r g l

theorem isFirst_at (g : Fin 128) (l : Fin 64) : k0_pay5 v0 v1 (ix3 r l g)
    = BitVec.ofBool (decide (blockScore v0 v1 r g l = top (blockScore v0 v1 r g))) := by
  rw [← scores_at, ← firsts_at]
  pointwise [k0_pay5]

theorem lowered_at (g : Fin 128) (l : Fin 64) : k0_pay6 v0 v1 (ix3 r l g) = lower (blockScore v0 v1 r g) l := by
  pointwise [k0_pay6]
  rw [isFirst_at, select_ofBool, erased_eq, scores_at]
  rfl

theorem seconds_at (g : Fin 128) : k0_pay7 v0 v1 (ix2 r g) = top (lower (blockScore v0 v1 r g)) := by
  pointwise [k0_pay7]
  rw [erased_eq]
  unfold top
  exact Finset.fold_congr fun l _ => lowered_at v0 v1 r g l

theorem isSecond_at (g : Fin 128) (l : Fin 64) : k0_pay8 v0 v1 (ix3 r l g)
    = BitVec.ofBool (decide (lower (blockScore v0 v1 r g) l = top (lower (blockScore v0 v1 r g)))) := by
  rw [← lowered_at, ← seconds_at]
  pointwise [k0_pay8]

theorem thirds_at (g : Fin 128) : k0_pay9 v0 v1 (ix2 r g) = top (lower (lower (blockScore v0 v1 r g))) := by
  pointwise [k0_pay9]
  rw [erased_eq]
  unfold top
  refine Finset.fold_congr fun l _ => ?_
  rw [isSecond_at, select_ofBool, lowered_at]
  rfl

theorem firstIds_at (i : grid0.Coords) (g : Fin 128) : k0_pay10 i v0 v1 (ix2 r g)
    = BitVec.ofNat 32 (i 1).val * 8192#32 + placeOf (blockScore v0 v1 r g) * 128#32 + BitVec.ofNat 32 g.val := by
  pointwise [k0_pay10]
  simp only [isFirst_at, select_ofBool]
  rfl

theorem secondIds_at (i : grid0.Coords) (g : Fin 128) : k0_pay11 i v0 v1 (ix2 r g)
    = BitVec.ofNat 32 (i 1).val * 8192#32 + placeOf (lower (blockScore v0 v1 r g)) * 128#32 + BitVec.ofNat 32 g.val := by
  pointwise [k0_pay11]
  simp only [isSecond_at, select_ofBool]
  rfl

/-- The scores a block writes. -/
theorem vals_at (p : Fin 384) : k0_pay1 (k0_pay4 v0 v1) (k0_pay7 v0 v1) (k0_pay9 v0 v1) (ix2 r p)
    = blockVal (blockScore v0 v1 r) p := by
  pointwise [k0_pay1]
  simp only [firsts_at, seconds_at, thirds_at]
  rfl

/-- The numbers a block writes. -/
theorem ids_at (i : grid0.Coords) (p : Fin 384) :
    k0_pay2 (iota .tc S512x128 32 [1] iota_S512x128_d1_w32) (k0_pay10 i v0 v1) (k0_pay11 i v0 v1)
      (Scalar.muli (BitVec.ofNat 32 (i 1).val) 8192#32) (ix2 r p)
    = blockId (BitVec.ofNat 32 (i 1).val) (blockScore v0 v1 r) p := by
  pointwise [k0_pay2]
  simp only [firstIds_at, secondIds_at]
  rfl

end

end Cert.Knn

end
-- ==== Proof.ShortlistArray.lean ====
/-
  What the first kernel's two output arrays hold after its run: row `q`, column `c` is column `c % 384` of block `c / 384`
  for query `q`, over the candidates `8192·(c / 384)` and following.
-/
module

public import proofs.«01_k».proof.Proof.Gen.KernelIdeal.Frame
public import proofs.«01_k».proof.Proof.ShortlistBlock
public import Idealize.ShloMosaic.Lib.Pipeline.ValueKit

@[expose] public section

set_option maxRecDepth 16384

noncomputable section

namespace Cert.Knn

open Idealize.ShloMosaic Idealize.ShloMosaic.TcCoe Cert.KernelIdeal Cert.KernelIdeal.Gen
open Idealize.ShloMosaic.Pipeline (Dat Cfg Window)

/-- The score of candidate `8192·j + 128·l + g` for query `q`. -/
def arrayScore (Q : S4096x128.Idx → EReal) (C : S106496x128.Idx → EReal) (q : Fin 4096) (j : Fin 13) (g : Fin 128) (l : Fin 64) :
    EReal :=
  ∑ d : Fin 128, Q (ix2 q d) * C (ix2 ⟨j.val * 8192 + l.val * 128 + g.val, by omega⟩ d)

/-- The block of a column, and its column there. -/
def colBlock (c : Fin 4992) : Fin 13 := ⟨c.val / 384, by omega⟩
def colIn (c : Fin 4992) : Fin 384 := ⟨c.val % 384, by omega⟩

/-- The scores array. -/
def shortVal (Q : S4096x128.Idx → EReal) (C : S106496x128.Idx → EReal) (q : Fin 4096) (c : Fin 4992) : EReal :=
  blockVal (arrayScore Q C q (colBlock c)) (colIn c)

/-- The numbers array. -/
def shortId (Q : S4096x128.Idx → EReal) (C : S106496x128.Idx → EReal) (q : Fin 4096) (c : Fin 4992) : BitVec 32 :=
  blockId (BitVec.ofNat 32 (colBlock c).val) (arrayScore Q C q (colBlock c)) (colIn c)

theorem index0_0 : ∀ t : Fin cfg0.N, win0_0.index t = ![(grid0.coords t 0).val, 0] := by decide +kernel
theorem index0_1 : ∀ t : Fin cfg0.N, win0_1.index t = ![(grid0.coords t 1).val, 0] := by decide +kernel
theorem index0_2 : ∀ t : Fin cfg0.N, win0_2.index t = ![(grid0.coords t 0).val, (grid0.coords t 1).val] := by decide +kernel
theorem index0_3 : ∀ t : Fin cfg0.N, win0_3.index t = ![(grid0.coords t 0).val, (grid0.coords t 1).val] := by decide +kernel

/-- The scores of a block whose inputs are rows of the arrays are the array's. -/
theorem blockScore_eq (v0 : Vec Ideal S512x128 .f32) (v1 : Vec Ideal S8192x128 .f32) (r : Fin 512) (Q : S4096x128.Idx → EReal)
    (C : S106496x128.Idx → EReal) (q : Fin 4096) (j : Fin 13) (h0 : ∀ d, v0 (ix2 r d) = Q (ix2 q d))
    (h1 : ∀ (k : Fin 8192) d, v1 (ix2 k d) = C (ix2 ⟨j.val * 8192 + k.val, by omega⟩ d)) :
    blockScore v0 v1 r = arrayScore Q C q j := by
  funext g l
  refine Finset.sum_congr rfl fun d _ => ?_
  have e : (⟨j.val * 8192 + (l.val * 128 + g.val), by omega⟩ : Fin 106496) = ⟨j.val * 8192 + l.val * 128 + g.val, by omega⟩ :=
    Fin.ext (Nat.add_assoc _ _ _).symm
  rw [h0, h1, e]

/-- The point's block of candidates, as a number of a block. -/
def pointBlock (t : Fin cfg0.N) : Fin 13 := ⟨(grid0.coords t 1).val, (grid0.coords t 1).isLt⟩

section
variable (V : (c : Dev nD) → (b : Ref sig .tc) → Buf (Elt Ideal) ((c : Thread nD τ).loc b)) (c : Dev nD)

/-- A point's query block at an index. -/
theorem queries_at (t : Fin cfg0.N) (r : Fin 512) (d : Fin 128) (q : Fin 4096)
    (hq : q.val = (grid0.coords t 0).val * 512 + r.val) :
    (iblk0 V c 0 t : Vec Ideal S512x128 .f32) (ix2 r d) = (V c main_arg0 : S4096x128.Idx → EReal) (ix2 q d) := by
  blk_ext [iblk0, index0_0 t]

/-- A point's candidate block at an index. -/
theorem candidates_at (t : Fin cfg0.N) (k : Fin 8192) (d : Fin 128) :
    (iblk0 V c 1 t : Vec Ideal S8192x128 .f32) (ix2 k d)
      = (V c main_v0 : S106496x128.Idx → EReal) (ix2 ⟨(pointBlock t).val * 8192 + k.val, by omega⟩ d) := by
  blk_ext [iblk0, index0_1 t]
  rfl

theorem point_scores (t : Fin cfg0.N) (r : Fin 512) (q : Fin 4096) (hq : q.val = (grid0.coords t 0).val * 512 + r.val) :
    blockScore (iblk0 V c 0 t) (iblk0 V c 1 t) r = arrayScore (V c main_arg0) (V c main_v0) q (pointBlock t) :=
  blockScore_eq _ _ r _ _ q (pointBlock t) (fun d => queries_at V c t r d q hq) (fun k d => candidates_at V c t k d)

/-- Where a point's output block lies: its rows among the queries, its columns among the columns of its block. -/
theorem at_col (t : Fin cfg0.N) (p : Fin 384) (e : Fin 4992) (he : e.val = (grid0.coords t 1).val * 384 + p.val) :
    colBlock e = pointBlock t ∧ colIn e = p := by
  constructor
  · apply Fin.ext; show e.val / 384 = (grid0.coords t 1).val; omega
  · apply Fin.ext; show e.val % 384 = p.val; omega

theorem vals_point (t : Fin cfg0.N) (r : Fin 512) (p : Fin 384) (q : Fin 4096) (e : Fin 4992)
    (hq : q.val = (grid0.coords t 0).val * 512 + r.val) (he : e.val = (grid0.coords t 1).val * 384 + p.val) :
    k0_pay1 (k0_pay4 (iblk0 V c 0 t) (iblk0 V c 1 t)) (k0_pay7 (iblk0 V c 0 t) (iblk0 V c 1 t))
      (k0_pay9 (iblk0 V c 0 t) (iblk0 V c 1 t)) (ix2 r p) = shortVal (V c main_arg0) (V c main_v0) q e := by
  obtain ⟨hb, hp⟩ := at_col t p e he
  unfold shortVal
  rw [hb, hp, ← point_scores V c t r q hq]
  exact vals_at _ _ r p

theorem ids_point (t : Fin cfg0.N) (r : Fin 512) (p : Fin 384) (q : Fin 4096) (e : Fin 4992)
    (hq : q.val = (grid0.coords t 0).val * 512 + r.val) (he : e.val = (grid0.coords t 1).val * 384 + p.val) :
    k0_pay2 (iota .tc S512x128 32 [1] iota_S512x128_d1_w32) (k0_pay10 (grid0.coords t) (iblk0 V c 0 t) (iblk0 V c 1 t))
      (k0_pay11 (grid0.coords t) (iblk0 V c 0 t) (iblk0 V c 1 t))
      (Scalar.muli (BitVec.ofNat 32 (grid0.coords t 1).val) 8192#32) (ix2 r p)
      = shortId (V c main_arg0) (V c main_v0) q e := by
  obtain ⟨hb, hp⟩ := at_col t p e he
  unfold shortId
  rw [hb, hp, ← point_scores V c t r q hq]
  exact ids_at _ _ r (grid0.coords t) p

/-- The scores array after the run. -/
theorem shortVal_arr : (dat0 V c).arrAt 2 cfg0.N
    = fun i => shortVal (V c main_arg0) (V c main_v0) (i 0) (i 1) := by
  refine (dat0 V c).arrAt_eq_of_covers 2 _ (by decide +kernel) fun t hf y => ?_
  rw [after0_2]
  frame_out
  blk_simp
  refine (congrArg _ (eq_ix2 (n0 := 512) (n1 := 384) y)).trans (vals_point V c t _ _ _ _ ?_ ?_)
  · blk_simp [index0_2 t]
  · blk_simp [index0_2 t]

/-- The numbers array after the run. -/
theorem shortId_arr : (dat0 V c).arrAt 3 cfg0.N
    = fun i => shortId (V c main_arg0) (V c main_v0) (i 0) (i 1) := by
  refine (dat0 V c).arrAt_eq_of_covers 3 _ (by decide +kernel) fun t hf y => ?_
  rw [after0_3]
  frame_out
  blk_simp
  refine (congrArg _ (eq_ix2 (n0 := 512) (n1 := 384) y)).trans (ids_point V c t _ _ _ _ ?_ ?_)
  · blk_simp [index0_3 t]
  · blk_simp [index0_3 t]

end

end Cert.Knn

end
-- ==== Proof.RoundsBlock.lean ====
/-
  What one block of the second kernel computes, at an index: ten rounds on each row of 4992 scores and numbers.
-/
module

public import proofs.«01_k».proof.Proof.Gen.KernelIdeal.Skeleton
public import proofs.«01_k».proof.Proof.ShortlistBlock
public import Idealize.ShloMosaic.Lib.Pointwise

@[expose] public section

set_option maxRecDepth 16384

noncomputable section

namespace Cert.Knn

open Idealize.ShloMosaic Cert.KernelIdeal Cert.KernelIdeal.Gen

/-! ## A round on a whole block -/

/-- Each row's maximum. -/
def blockTop (x : FVec Ideal S128x4992 .f32) : FVec Ideal S128x1 .f32 :=
  shapeCast S128x1 (multiReduction .maximumf [1] S128 x 0xFF800000#32 reduces_S128x4992_S128 (.inl rfl) rfl) shapeCasts_S128_S128x1

/-- Each row's taken number. -/
def blockPick (w : IVec S128x4992 32) (x : FVec Ideal S128x4992 .f32) : IVec S128x1 32 :=
  shapeCast S128x1 (multiReductionI .minsi [1] S128
    (select (cmpf .oeq x (broadcastTo S128x4992 (blockTop x) broadcasts_S128x1_S128x4992)) w (broadcast S128x4992 2147483647#32))
    2147483647#32 reduces_S128x4992_S128 rfl) shapeCasts_S128_S128x1

/-- Each row with the entries of the taken number erased. -/
def blockErase (w : IVec S128x4992 32) (x : FVec Ideal S128x4992 .f32) : FVec Ideal S128x4992 .f32 :=
  select (cmpi .eq w (broadcastTo S128x4992 (blockPick w x) broadcasts_S128x1_S128x4992))
    (broadcast S128x4992 (Scalar.ofBits .f32 0xFF800000#32)) x

/-- The block after `k` rounds. -/
def blockAfter (w : IVec S128x4992 32) (x : FVec Ideal S128x4992 .f32) : ℕ → FVec Ideal S128x4992 .f32
  | 0 => x
  | k + 1 => blockErase w (blockAfter w x k)

section
variable (w : IVec S128x4992 32) (x : FVec Ideal S128x4992 .f32) (r : Fin 128)

theorem blockTop_at : blockTop x (ix2 r 0) = top fun c => x (ix2 r c) := by
  pointwise [blockTop]
  rw [erased_eq]
  rfl

theorem blockPick_at : blockPick w x (ix2 r 0) = pick (fun c => w (ix2 r c)) fun c => x (ix2 r c) := by
  pointwise [blockPick]
  simp only [blockTop_at]
  rfl

theorem blockErase_at (c : Fin 4992) :
    blockErase w x (ix2 r c) = erase (fun c => w (ix2 r c)) (fun c => x (ix2 r c)) c := by
  pointwise [blockErase]
  rw [blockPick_at, erased_eq]
  exact select_ofBool _ _ _

/-- A row of the block after `k` rounds is the row after `k` rounds. -/
theorem blockAfter_at (k : ℕ) :
    (fun c => blockAfter w x k (ix2 r c)) = rowAfter (fun c => w (ix2 r c)) (fun c => x (ix2 r c)) k := by
  induction k with
  | zero => rfl
  | succ k ih =>
    funext c
    show blockErase w (blockAfter w x k) (ix2 r c) = erase _ (rowAfter _ _ k) c
    rw [blockErase_at, ih]

theorem topAfter_at (k : ℕ) : blockTop (blockAfter w x k) (ix2 r 0)
    = top (rowAfter (fun c => w (ix2 r c)) (fun c => x (ix2 r c)) k) := by rw [blockTop_at, blockAfter_at]

theorem pickAfter_at (k : ℕ) : blockPick w (blockAfter w x k) (ix2 r 0)
    = pick (fun c => w (ix2 r c)) (rowAfter (fun c => w (ix2 r c)) (fun c => x (ix2 r c)) k) := by rw [blockPick_at, blockAfter_at]

end

/-! ## The payloads -/

theorem loadedScores (v0 : Vec Ideal S128x4992 .f32) : k1_pay11 v0 = v0 := by
  funext i; rw [eq_ix2 (n0 := 128) (n1 := 4992) i]; pointwise [k1_pay11]

theorem loadedNumbers (v2 : Vec Ideal S128x4992 .i32) : k1_pay12 (F := Ideal) v2 = v2 := by
  funext i; rw [eq_ix2 (n0 := 128) (n1 := 4992) i]; pointwise [k1_pay12]

section
variable (v0 : Vec Ideal S128x4992 .f32) (v2 : Vec Ideal S128x4992 .i32) (r : Fin 128)

/-- The scores a block writes, as one stack of the rounds' maxima. -/
theorem dists_eq : k1_pay9 (k1_pay12 (F := Ideal) v2) (k1_pay13 v0) (k1_pay16 v0 v2) (k1_pay19 v0 v2) (k1_pay22 v0 v2)
      (k1_pay25 (k1_pay12 (F := Ideal) v2) (k1_pay21 v0 v2) (k1_pay22 v0 v2))
      (k1_pay28 (k1_pay12 (F := Ideal) v2) (k1_pay21 v0 v2) (k1_pay22 v0 v2))
      (k1_pay30 (k1_pay12 (F := Ideal) v2) (k1_pay21 v0 v2) (k1_pay22 v0 v2))
      (k1_pay31 (k1_pay12 (F := Ideal) v2) (k1_pay21 v0 v2) (k1_pay22 v0 v2))
      (k1_pay33 (k1_pay12 (F := Ideal) v2) (k1_pay21 v0 v2) (k1_pay22 v0 v2)) (k1_pay34 (F := Ideal))
    = concatenate S128x10 1 (List.ofFn fun k : Fin 10 =>
        ⟨S128x1, blockTop (blockAfter (k1_pay12 (F := Ideal) v2) (k1_pay11 v0) k.val)⟩)
      concatenates_S128x1_S128x1_S128x1_S128x1_S128x1_S128x1_S128x1_S128x1_S128x1_S128x1_S128x10_d1 := rfl

/-- The numbers a block writes, as one stack of the rounds' taken numbers. -/
theorem nums_eq : k1_pay10 (k1_pay12 (F := Ideal) v2) (k1_pay14 v0 v2) (k1_pay17 v0 v2) (k1_pay20 v0 v2)
      (k1_pay23 (k1_pay12 (F := Ideal) v2) (k1_pay21 v0 v2) (k1_pay22 v0 v2))
      (k1_pay26 (k1_pay12 (F := Ideal) v2) (k1_pay21 v0 v2) (k1_pay22 v0 v2))
      (k1_pay29 (k1_pay12 (F := Ideal) v2) (k1_pay21 v0 v2) (k1_pay22 v0 v2))
      (k1_pay30 (k1_pay12 (F := Ideal) v2) (k1_pay21 v0 v2) (k1_pay22 v0 v2))
      (k1_pay32 (k1_pay12 (F := Ideal) v2) (k1_pay21 v0 v2) (k1_pay22 v0 v2))
      (k1_pay33 (k1_pay12 (F := Ideal) v2) (k1_pay21 v0 v2) (k1_pay22 v0 v2)) (k1_pay34 (F := Ideal))
    = concatenate S128x10 1 (List.ofFn fun k : Fin 10 =>
        ⟨S128x1, blockPick (k1_pay12 (F := Ideal) v2) (blockAfter (k1_pay12 (F := Ideal) v2) (k1_pay11 v0) k.val)⟩)
      concatenates_S128x1_S128x1_S128x1_S128x1_S128x1_S128x1_S128x1_S128x1_S128x1_S128x1_S128x10_d1 := rfl

/-- A stack of ten columns, at an index. -/
theorem stack_at {α : Type} (f : Fin 10 → S128x1.Idx → α)
    (h : Shape.Concatenates (List.map Sigma.fst (List.ofFn fun k : Fin 10 => (⟨S128x1, f k⟩ : (s : Shape) × (s.Idx → α)))) S128x10 1)
    (k : Fin 10) : concatenate S128x10 1 (List.ofFn fun k : Fin 10 => ⟨S128x1, f k⟩) h (ix2 r k) = f k (ix2 r 0) := by
  rw [concatenate_ofFn_unit_apply' _ _ _ rfl]
  refine congrArg (f k) (funext fun b => ?_)
  fin_cases b <;> rfl

/-- Column `k` of the scores is the maximum after `k` rounds. -/
theorem dists_at (k : Fin 10) :
    k1_pay9 (k1_pay12 (F := Ideal) v2) (k1_pay13 v0) (k1_pay16 v0 v2) (k1_pay19 v0 v2) (k1_pay22 v0 v2)
      (k1_pay25 (k1_pay12 (F := Ideal) v2) (k1_pay21 v0 v2) (k1_pay22 v0 v2))
      (k1_pay28 (k1_pay12 (F := Ideal) v2) (k1_pay21 v0 v2) (k1_pay22 v0 v2))
      (k1_pay30 (k1_pay12 (F := Ideal) v2) (k1_pay21 v0 v2) (k1_pay22 v0 v2))
      (k1_pay31 (k1_pay12 (F := Ideal) v2) (k1_pay21 v0 v2) (k1_pay22 v0 v2))
      (k1_pay33 (k1_pay12 (F := Ideal) v2) (k1_pay21 v0 v2) (k1_pay22 v0 v2)) (k1_pay34 (F := Ideal)) (ix2 r k)
    = top (rowAfter (fun c => v2 (ix2 r c)) (fun c => v0 (ix2 r c)) k.val) := by
  refine (congrFun (dists_eq v0 v2) (ix2 r k)).trans ((stack_at r _ _ k).trans ?_)
  rw [topAfter_at, loadedScores, loadedNumbers]

/-- Column `k` of the numbers is the number round `k` takes. -/
theorem nums_at (k : Fin 10) :
    k1_pay10 (k1_pay12 (F := Ideal) v2) (k1_pay14 v0 v2) (k1_pay17 v0 v2) (k1_pay20 v0 v2)
      (k1_pay23 (k1_pay12 (F := Ideal) v2) (k1_pay21 v0 v2) (k1_pay22 v0 v2))
      (k1_pay26 (k1_pay12 (F := Ideal) v2) (k1_pay21 v0 v2) (k1_pay22 v0 v2))
      (k1_pay29 (k1_pay12 (F := Ideal) v2) (k1_pay21 v0 v2) (k1_pay22 v0 v2))
      (k1_pay30 (k1_pay12 (F := Ideal) v2) (k1_pay21 v0 v2) (k1_pay22 v0 v2))
      (k1_pay32 (k1_pay12 (F := Ideal) v2) (k1_pay21 v0 v2) (k1_pay22 v0 v2))
      (k1_pay33 (k1_pay12 (F := Ideal) v2) (k1_pay21 v0 v2) (k1_pay22 v0 v2)) (k1_pay34 (F := Ideal)) (ix2 r k)
    = pick (fun c => v2 (ix2 r c)) (rowAfter (fun c => v2 (ix2 r c)) (fun c => v0 (ix2 r c)) k.val) := by
  refine (congrFun (nums_eq v0 v2) (ix2 r k)).trans ((stack_at r _ _ k).trans ?_)
  rw [pickAfter_at, loadedScores, loadedNumbers]

end

end Cert.Knn

end
-- ==== Proof.RoundsArray.lean ====
/-
  What the second kernel's two output arrays hold after its run: row `q`, column `k` is what round `k` takes from row `q`
  of the scores and numbers it reads.
-/
module

public import proofs.«01_k».proof.Proof.Gen.KernelIdeal.Frame
public import proofs.«01_k».proof.Proof.RoundsBlock
public import Idealize.ShloMosaic.Lib.Pipeline.ValueKit

@[expose] public section

set_option maxRecDepth 16384

noncomputable section

namespace Cert.Knn

open Idealize.ShloMosaic Idealize.ShloMosaic.TcCoe Cert.KernelIdeal Cert.KernelIdeal.Gen
open Idealize.ShloMosaic.Pipeline (Dat Cfg Window)

/-- The results from the scores `X` and the numbers `W`. -/
def roundVal (X : S4096x4992.Idx → EReal) (W : S4096x4992.Idx → BitVec 32) (q : Fin 4096) (k : Fin 10) : EReal :=
  top (rowAfter (fun c => W (ix2 q c)) (fun c => X (ix2 q c)) k.val)

def roundId (X : S4096x4992.Idx → EReal) (W : S4096x4992.Idx → BitVec 32) (q : Fin 4096) (k : Fin 10) : BitVec 32 :=
  pick (fun c => W (ix2 q c)) (rowAfter (fun c => W (ix2 q c)) (fun c => X (ix2 q c)) k.val)

theorem index1_0 : ∀ t : Fin cfg1.N, win1_0.index t = ![(grid1.coords t 0).val, 0] := by decide +kernel
theorem index1_1 : ∀ t : Fin cfg1.N, win1_1.index t = ![(grid1.coords t 0).val, 0] := by decide +kernel
theorem index1_2 : ∀ t : Fin cfg1.N, win1_2.index t = ![(grid1.coords t 0).val, 0] := by decide +kernel
theorem index1_3 : ∀ t : Fin cfg1.N, win1_3.index t = ![(grid1.coords t 0).val, 0] := by decide +kernel

section
variable (V : (c : Dev nD) → (b : Ref sig .tc) → Buf (Elt Ideal) ((c : Thread nD τ).loc b)) (c : Dev nD)

/-- A point's block of scores at an index. -/
theorem scoresIn_at (t : Fin cfg1.N) (r : Fin 128) (q : Fin 4096) (hq : q.val = (grid1.coords t 0).val * 128 + r.val) :
    (fun d : Fin 4992 => (iblk1 V c 0 t : Vec Ideal S128x4992 .f32) (ix2 r d))
      = fun d => (V c main_v1_0 : S4096x4992.Idx → EReal) (ix2 q d) := by
  funext d
  blk_ext [iblk1, index1_0 t]

/-- A point's block of numbers at an index. -/
theorem numbersIn_at (t : Fin cfg1.N) (r : Fin 128) (q : Fin 4096) (hq : q.val = (grid1.coords t 0).val * 128 + r.val) :
    (fun d : Fin 4992 => (iblk1 V c 1 t : Vec Ideal S128x4992 .i32) (ix2 r d))
      = fun d => (V c main_v1_1 : S4096x4992.Idx → BitVec 32) (ix2 q d) := by
  funext d
  blk_ext [iblk1, index1_1 t]

/-- The scores after the run. -/
theorem roundVal_arr : (dat1 V c).arrAt 2 cfg1.N
    = fun i => roundVal (V c main_v1_0) (V c main_v1_1) (i 0) (i 1) := by
  refine (dat1 V c).arrAt_eq_of_covers 2 _ (by decide +kernel) fun t hf y => ?_
  rw [after1_2]
  unfold_out out1_2
  frame_out
  blk_simp
  refine ((congrArg _ (eq_ix2 (n0 := 128) (n1 := 10) y)).trans (dists_at _ _ _ _)).trans ?_
  unfold roundVal
  have hq : ((((win1_2.blk t).view.emb y 0 : Fin 4096)) : ℕ) = (grid1.coords t 0).val * 128 + (y 0).val := by
    blk_simp [index1_2 t]
  rw [scoresIn_at V c t _ _ hq, numbersIn_at V c t _ _ hq]
  have hk : (((win1_2.blk t).view.emb y 1 : Fin 10) : ℕ) = (y 1).val := by
    blk_simp [index1_2 t]
  rw [hk]

/-- The numbers after the run. -/
theorem roundId_arr : (dat1 V c).arrAt 3 cfg1.N
    = fun i => roundId (V c main_v1_0) (V c main_v1_1) (i 0) (i 1) := by
  refine (dat1 V c).arrAt_eq_of_covers 3 _ (by decide +kernel) fun t hf y => ?_
  rw [after1_3]
  unfold_out out1_3
  frame_out
  blk_simp
  refine ((congrArg _ (eq_ix2 (n0 := 128) (n1 := 10) y)).trans (nums_at _ _ _ _)).trans ?_
  unfold roundId
  have hq : ((((win1_3.blk t).view.emb y 0 : Fin 4096)) : ℕ) = (grid1.coords t 0).val * 128 + (y 0).val := by
    blk_simp [index1_3 t]
  rw [scoresIn_at V c t _ _ hq, numbersIn_at V c t _ _ hq]
  have hk : (((win1_3.blk t).view.emb y 1 : Fin 10) : ℕ) = (y 1).val := by
    blk_simp [index1_3 t]
  rw [hk]

end

end Cert.Knn

end
-- ==== Proof.KernelRun.lean ====
/-
  What the kernel's two results are after its run, from its arguments: the rounds over the shortlist over the candidates
  padded with rows of zeros.
-/
module

public import proofs.«01_k».proof.Proof.ShortlistArray
public import proofs.«01_k».proof.Proof.RoundsArray
public import Idealize.ShloMosaic.Lib.Pointwise

@[expose] public section

set_option maxRecDepth 16384

noncomputable section

namespace Cert.Knn

open Idealize.ShloMosaic Idealize.ShloMosaic.TcCoe Cert.KernelIdeal Cert.KernelIdeal.Gen
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

/-! ## The padded candidates -/

/-- The candidates with rows of zeros after them. -/
def padded (C : FVec Ideal S100000x128 .f32) : FVec Ideal S106496x128 .f32 :=
  pad S106496x128 ![0, 0] ![6496, 0] ![0, 0] C (sitofp .f32 (constantI S_ 32 0#32)) pads_S100000x128_S106496x128_064960_000 h_S_

/-- The converted zero is zero. -/
theorem zero_word : (FloatOps.sitofp FTy.f32 (0#32 : BitVec 32) : Ideal .f32) = (0 : EReal) := by
  show (((0#32 : BitVec 32).toInt : ℝ) : EReal) = 0
  simp

/-- A row of the padded candidates: the candidate's, or zero. -/
theorem padded_at (C : FVec Ideal S100000x128 .f32) (n : Fin 106496) (d : Fin 128) :
    padded C (ix2 n d) = if h : n.val < 100000 then C (ix2 ⟨n.val, h⟩ d) else (0 : EReal) := by
  pointwise [padded]
  rw [zero_word]

/-! ## The results -/

/-- The results from the queries and the candidates. -/
def kernelVal (Q : FVec Ideal S4096x128 .f32) (C : FVec Ideal S100000x128 .f32) (q : Fin 4096) (k : Fin 10) : EReal :=
  roundVal (fun i => shortVal Q (padded C) (i 0) (i 1)) (fun i => shortId Q (padded C) (i 0) (i 1)) q k

def kernelId (Q : FVec Ideal S4096x128 .f32) (C : FVec Ideal S100000x128 .f32) (q : Fin 4096) (k : Fin 10) : BitVec 32 :=
  roundId (fun i => shortVal Q (padded C) (i 0) (i 1)) (fun i => shortId Q (padded C) (i 0) (i 1)) q k

local notation "𝕄" => MT nD τ sig Unit (Elt Ideal) ℕ (UR sig nD τ) ℕ

section
variable (m : (ℓ : Loc nD τ sig) → Buf (Elt Ideal) ℓ) (ρ : Dev nD → PrngReg) (c : Dev nD)

theorem entry_queries : V2 m ρ c main_arg0 = m ((c : Thread nD τ).loc main_arg0) := W2_args m ρ c main_arg0 (by decide)

/-- The first kernel reads the padded candidates. -/
theorem entry_candidates : V2 m ρ c main_v0 = padded (m ((c : Thread nD τ).loc main_arg1)) := by
  rfl

/-- The second kernel reads the shortlist. -/
theorem entry_scores : V3 m ρ c main_v1_0 = fun i => shortVal (m ((c : Thread nD τ).loc main_arg0))
    (padded (m ((c : Thread nD τ).loc main_arg1))) (i 0) (i 1) := by
  rw [← entry_queries m ρ c, ← entry_candidates m ρ c]
  exact (W3_arr m ρ c 2).trans (shortVal_arr (V2 m ρ) c)

theorem entry_numbers : V3 m ρ c main_v1_1 = fun i => shortId (m ((c : Thread nD τ).loc main_arg0))
    (padded (m ((c : Thread nD τ).loc main_arg1))) (i 0) (i 1) := by
  rw [← entry_queries m ρ c, ← entry_candidates m ρ c]
  exact (W3_arr m ρ c 3).trans (shortId_arr (V2 m ρ) c)

theorem exit_scores : W4 m ρ c (Proc.devRef .tc main_v2_0)
    = fun i => kernelVal (m ((c : Thread nD τ).loc main_arg0)) (m ((c : Thread nD τ).loc main_arg1)) (i 0) (i 1) := by
  refine (W4_arr m ρ c 2).trans ((roundVal_arr (V3 m ρ) c).trans ?_)
  funext i
  exact congrArg₂ (fun X W => roundVal X W (i 0) (i 1)) (entry_scores m ρ c) (entry_numbers m ρ c)

theorem exit_numbers : W4 m ρ c (Proc.devRef .tc main_v2_1)
    = fun i => kernelId (m ((c : Thread nD τ).loc main_arg0)) (m ((c : Thread nD τ).loc main_arg1)) (i 0) (i 1) := by
  refine (W4_arr m ρ c 3).trans ((roundId_arr (V3 m ρ) c).trans ?_)
  funext i
  exact congrArg₂ (fun X W => roundId X W (i 0) (i 1)) (entry_scores m ρ c) (entry_numbers m ρ c)

end

set_option backward.isDefEq.respectTransparency.types false in
/-- The kernel runs; its results are the rounds over the shortlist, its arguments end unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0)
          = (fun i => kernelVal (m ((c : Thread nD τ).loc main_arg0)) (m ((c : Thread nD τ).loc main_arg1)) (i 0) (i 1))
      ∧ r.2.mem ((c.tc : Thread nD τ).loc main_v2_1)
          = (fun i => kernelId (m ((c : Thread nD τ).loc main_arg0)) (m ((c : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v2_0 (by decide))).trans (exit_scores m ρ c),
       (h c _ (mem_uc main_v2_1 (by decide))).trans (exit_numbers m ρ c),
       (h c _ (mem_uc main_arg0 (by decide))).trans (W4_main_arg0 m ρ c),
       (h c _ (mem_uc main_arg1 (by decide))).trans (W4_main_arg1 m ρ c)⟩)

end Cert.Knn

end
-- ==== Proof.Selection.lean ====
/-
  The top-k operation: sorting a row stably by its scores, greater first, and keeping the first places lists the best
  candidates in order.
-/
module

public import proofs.«01_k».proof.Proof.Order
public import Idealize.ShloMosaic.Lib.SortPrefix
public import Idealize.ShloMosaic.Lib.Pointwise

@[expose] public section

set_option maxRecDepth 16384

noncomputable section

namespace Cert.Knn

open Idealize.ShloMosaic Idealize.ShloMosaic.Tactic

section
variable {n : ℕ} (s : Fin n → EReal)

/-- Greater first. -/
def greater (a b : Fin n) : Bool := decide (s b < s a)

/-- Greater first, and of equal scores the lower number first. -/
def ahead (a b : Fin n) : Bool := decide (s b < s a) || (decide (s a = s b) && decide (a < b))

theorem ahead_iff (a b : Fin n) : ahead s a b = true ↔ Before s a b := by
  simp [ahead, Before]

/-- Greater first with the number to decide is a strict total order. -/
theorem ahead_total : StrictTotalBefore (ahead s) :=
  StrictTotalBefore.of_key_then_position (fun a b : EReal => decide (b < a)) s (by simp)
    (fun a b c => by simp only [decide_eq_true_eq]; exact fun h h' => h'.trans h)
    (fun a b => by
      simp only [decide_eq_true_eq]
      rcases lt_trichotomy a b with h | h | h
      · exact Or.inr (Or.inr h)
      · exact Or.inr (Or.inl h)
      · exact Or.inl h)

/-- A stable sort of a list in order of number sorts by the number too. -/
theorem stable_greater (l : List (Fin n)) (h : l.Pairwise (· < ·)) :
    stableSort (greater s) l = stableSort (ahead s) l := by
  induction l with
  | nil => rfl
  | cons a l ih =>
    rw [List.pairwise_cons] at h
    unfold stableSort
    rw [ih h.2]
    refine insertBefore_congr _ _ a _ fun b hb => ?_
    have hab : a < b := h.1 b ((perm_stableSort _ l).mem_iff.mp hb)
    have e : decide (b < a) = false := decide_eq_false (not_lt.mpr hab.le)
    simp only [greater, ahead, e, Bool.and_false, Bool.or_false]

/-- The sorted places are those of the order with the number. -/
theorem sorted_greater : sortedFrom (greater s) = sortedFrom (ahead s) := by
  have e : sortPositions n (greater s) = sortPositions n (ahead s) :=
    stable_greater s _ (List.pairwise_lt_finRange n)
  funext k
  unfold sortedFrom
  rw [List.get_of_eq e]
  rfl

variable {k : ℕ} (hk : k ≤ n)

/-- The candidate in a place of the sorted row. -/
def chosen (i : Fin k) : Fin n := sortedFrom (greater s) (i.castLE hk)

theorem sorted_before (i j : Fin n) (h : i < j) : Before s (sortedFrom (ahead s) i) (sortedFrom (ahead s) j) := by
  have ht := ahead_total s
  have h0 := sortedFrom_noInversion (ahead s) (ahead s) ht.asymm (fun _ _ h => h) ht.negTrans i j h
  rw [← ahead_iff]
  rcases ht.total _ _ (fun e => h.ne (sortedFrom_injective (ahead s) e)) with h1 | h1
  · exact h1
  · rw [h0] at h1; exact absurd h1 (by decide)

/-- The first places of the sorted row list the best candidates. -/
theorem chosen_best : Best s (chosen s hk) where
  ordered i j h := by
    unfold chosen
    rw [sorted_greater]
    exact sorted_before s _ _ h
  rest i p h := by
    obtain ⟨a, rfl⟩ := sortedFrom_surjective (ahead s) p
    unfold chosen at h ⊢
    rw [sorted_greater] at h ⊢
    refine sorted_before s _ _ ?_
    by_contra hlt
    have hle : a.val ≤ i.val := by
      have := not_lt.mp hlt
      exact this
    exact h ⟨a.val, lt_of_le_of_lt hle i.isLt⟩ rfl

end

/-- A row of scores. -/
def rowOf (x : (⟨2, ![4096, 100000]⟩ : Shape).Idx → EReal) (q : Fin 4096) : Fin 100000 → EReal := fun n => x (ix2 q n)

/-- The ten places of a row. -/
def tenOf (x : (⟨2, ![4096, 100000]⟩ : Shape).Idx → EReal) (q : Fin 4096) : Fin 10 → Fin 100000 :=
  chosen (rowOf x q) (by decide)

section
variable (x : (⟨2, ![4096, 100000]⟩ : Shape).Idx → EReal)
  (h : (⟨2, ![4096, 100000]⟩ : Shape).Slices (fun _ => 0) ⟨2, ![4096, 10]⟩) (q : Fin 4096) (i : Fin 10)

theorem along_row (q : Fin 4096) (a b : Fin 100000) :
    Shape.Idx.along (s := ⟨2, ![4096, 100000]⟩) (ix2 q a) 1 b = ix2 q b := by
  funext d
  unfold Shape.Idx.along
  fin_cases d
  · rfl
  · rfl

/-- The order by the operation's own comparison. -/
theorem compare_row (q : Fin 4096) (j : Fin 100000) :
    (fun k k' : Fin 100000 => FloatOps.cmpfTotal (F := Ideal) (φ := .f32) CmpDirection.gt
        (x (Shape.Idx.along (s := ⟨2, ![4096, 100000]⟩) (ix2 q j) 1 k))
        (x (Shape.Idx.along (s := ⟨2, ![4096, 100000]⟩) (ix2 q j) 1 k')) == 1#1)
      = greater (rowOf x q) := by
  funext k k'
  refine (congrArg₂ (fun a b : EReal => BitVec.ofBool (decide (b < a)) == 1#1)
    (congrArg x (along_row q j k)) (congrArg x (along_row q j k'))).trans ?_
  unfold greater rowOf
  cases decide (x (ix2 q k') < x (ix2 q k)) <;> rfl

/-- What a sorted row holds in a place, from the order it was sorted by. -/
theorem place_of {β : Type} (y : (⟨2, ![4096, 100000]⟩ : Shape).Idx → β) (j : Fin 100000)
    (B : Fin 100000 → Fin 100000 → Bool) (hB : B = greater (rowOf x q)) :
    y (Shape.Idx.along (s := ⟨2, ![4096, 100000]⟩) (ix2 q j) 1 (sortedFrom B j))
      = y (ix2 q (sortedFrom (greater (rowOf x q)) j)) := by
  subst hB
  exact congrArg y (along_row q j _)

/-- A sorted row, in one of its first ten places. -/
theorem sorted_row {β : Type} (y : (⟨2, ![4096, 100000]⟩ : Shape).Idx → β) (J : (⟨2, ![4096, 100000]⟩ : Shape).Idx)
    (hJ : J = ix2 q (i.castLE (by decide))) :
    y (J.along 1 (sortedFrom (fun k k' => FloatOps.cmpfTotal (F := Ideal) (φ := .f32) CmpDirection.gt
        (x (J.along 1 k)) (x (J.along 1 k')) == 1#1) (J 1))) = y (ix2 q (tenOf x q i)) := by
  subst hJ
  exact place_of x q y _ _ (compare_row x q _)

/-- The place in the row of a place among the first ten. -/
theorem first_places (J : (⟨2, ![4096, 100000]⟩ : Shape).Idx) (h0 : (J 0).val = q.val) (h1 : (J 1).val = i.val) :
    J = ix2 q (i.castLE (by decide)) := by
  funext d
  fin_cases d
  · exact Fin.ext h0
  · exact Fin.ext h1

/-- The values of the top-k operation are the best scores. -/
theorem topK_values : (Host.topK ⟨2, ![4096, 10]⟩ 1 (FloatOps.cmpfTotal (F := Ideal) (φ := .f32) .gt) x h).1 (ix2 q i)
    = rowOf x q (tenOf x q i) := by
  unfold Host.topK Host.sort2 extractStridedSlice
  simp only [show (1 : ℕ) < (⟨2, ![4096, 100000]⟩ : Shape).rank from by decide, dif_pos]
  exact sorted_row x q i x _ (first_places q i _ (Nat.zero_add _) (Nat.zero_add _))

/-- The numbers of the top-k operation are those of the best candidates. -/
theorem topK_numbers : (Host.topK ⟨2, ![4096, 10]⟩ 1 (FloatOps.cmpfTotal (F := Ideal) (φ := .f32) .gt) x h).2 (ix2 q i)
    = BitVec.ofNat 32 (tenOf x q i).val := by
  unfold Host.topK Host.sort2 extractStridedSlice
  simp only [show (1 : ℕ) < (⟨2, ![4096, 100000]⟩ : Shape).rank from by decide, dif_pos]
  exact sorted_row x q i (iotaInDim (⟨2, ![4096, 100000]⟩ : Shape) 32 1) _
    (first_places q i _ (Nat.zero_add _) (Nat.zero_add _))

/-- The ten places hold the best ten candidates. -/
theorem tenOf_best : Best (rowOf x q) (tenOf x q) := chosen_best _ _

end

end Cert.Knn

end
-- ==== Proof.Reference.lean ====
/-
  What the reference's two results are: the scores of the best ten candidates, and their numbers.
-/
module

public import proofs.«01_k».proof.Proof.Selection
public import proofs.«01_k».proof.Proof.Gen.ReferenceIdeal.Read
public import Idealize.ShloMosaic.Lib.ReduceAll
public import Idealize.ShloMosaic.Lib.ValueIdxCore

@[expose] public section

set_option maxRecDepth 16384

noncomputable section

namespace Cert.Knn

open Idealize.ShloMosaic Idealize.ShloMosaic.Tactic Cert.ReferenceIdeal Cert.ReferenceIdeal.Gen Cert.ReferenceIdeal.Read

/-- The score of a candidate for a query. -/
def score (Q : FVec Ideal S4096x128 .f32) (C : FVec Ideal S100000x128 .f32) (q : Fin 4096) (n : Fin 100000) : EReal :=
  ∑ d : Fin 128, Q (ix2 q d) * C (ix2 n d)

/-- The table of the scores. -/
def scores (Q : FVec Ideal S4096x128 .f32) (C : FVec Ideal S100000x128 .f32) : S4096x100000.Idx → EReal :=
  fun i => score Q C (i 0) (i 1)

section
variable (Q : FVec Ideal S4096x128 .f32) (C : FVec Ideal S100000x128 .f32)

/-- The product with the transposed candidates is the table of the scores. -/
theorem product_scores : val_main_v1 (F := Ideal) Q C = scores Q C := by
  funext i
  rw [val_main_v1_apply]
  unfold scores score
  refine Finset.sum_congr rfl fun k _ => ?_
  rw [val_main_v0_apply]
  refine congrArg₂ (fun a b => (Q a * C b : EReal)) ?_ ?_
  · funext a
    fin_cases a <;> rfl
  · funext a
    fin_cases a <;> rfl

/-- The reference's first result: the scores of the best ten. -/
theorem reference_values (q : Fin 4096) (k : Fin 10) :
    val_main_values (F := Ideal) Q C (ix2 q k) = score Q C q (tenOf (scores Q C) q k) := by
  unfold val_main_values
  rw [product_scores]
  exact topK_values (scores Q C) _ q k

/-- The numbers the top-k operation gives. -/
theorem reference_numbers (q : Fin 4096) (k : Fin 10) :
    val_main_indices (F := Ideal) Q C (ix2 q k) = BitVec.ofNat 32 (tenOf (scores Q C) q k).val := by
  unfold val_main_indices
  rw [product_scores]
  exact topK_numbers (scores Q C) _ q k

/-- A candidate's number as a word. -/
theorem small_word (n : Fin 100000) : (BitVec.ofNat 32 n.val).toInt = (n.val : ℤ) :=
  toInt_ofNat_small _ (lt_trans n.isLt (by norm_num))

/-- The wrap of negative numbers leaves a candidate's number alone. -/
theorem unwrapped_number (q : Fin 4096) (k : Fin 10) :
    val_main_call0_v4 (F := Ideal) Q C (ix2 q k) = BitVec.ofNat 32 (tenOf (scores Q C) q k).val := by
  rw [val_main_call0_v4_apply, val_main_call0_v1_apply, val_main_call0_v0_apply, val_main_call0_c_apply,
    reference_numbers]
  have h : IntOp.cmpi .slt (BitVec.ofNat 32 (tenOf (scores Q C) q k).val) 0#32 ≠ 1#1 := by
    rw [Ne, IntOp.cmpi_slt, small_word]
    have : (0#32 : BitVec 32).toInt = 0 := by decide
    omega
  exact if_neg h

/-- The start of a read of the table of numbers. -/
theorem start_number (i : S4096x10x1.Idx) :
    val_main_call0_v5 (F := Ideal) Q C i = BitVec.ofNat 32 (tenOf (scores Q C) (i 0) (i 1)).val := by
  have e : idx_main_call0_v5 i = ix2 (i 0) (i 1) := by
    funext a
    fin_cases a <;> rfl
  rw [val_main_call0_v5_apply, e]
  exact unwrapped_number Q C (i 0) (i 1)

/-- Every start lies in the table. -/
theorem start_inside (i : S4096x10x1.Idx) : val_main_call0_v11 (F := Ideal) Q C i = 1#1 := by
  rw [val_main_call0_v11_apply, val_main_call0_v7_apply, val_main_call0_v10_apply, val_main_call0_v6_apply,
    val_main_call0_v9_apply, val_main_call0_v8_apply, val_main_call0_c_1_apply, val_main_call0_c_2_apply, start_number,
    IntOp.andi_eq_one, IntOp.cmpi_sge, IntOp.cmpi_sle, small_word]
  have h0 : (0#32 : BitVec 32).toInt = 0 := by decide
  have h1 : (99999#32 : BitVec 32).toInt = 99999 := by decide
  have h2 := (tenOf (scores Q C) (i 0) (i 1)).isLt
  omega

/-- The reference's second result: the numbers of the best ten. -/
theorem reference_ids (q : Fin 4096) (k : Fin 10) :
    val_main_v3 (F := Ideal) Q C (ix2 q k) = BitVec.ofNat 32 (tenOf (scores Q C) q k).val := by
  rw [val_main_v3_apply]
  have h : val_main_call0_v12 (F := Ideal) Q C (ix2 q k) = 1#1 := by
    unfold val_main_call0_v12
    exact Host.reduce_andi_one _ _ _ _ _ rfl (start_inside Q C)
  refine (if_pos h).trans ?_
  unfold val_main_call0_v13
  refine (ValueIdx.gather_take_apply (N := 100000) (R := 4096) (C := 10) (by norm_num) Gen.gather_S100000_S4096x10x1_S4096x10_n_0_n_n_0_2_1_wf
    (val_main_v2 (F := Ideal)) (val_main_call0_v5 (F := Ideal) Q C) (ix2 q k)).trans ?_
  rw [val_main_v2_apply]
  refine congrArg (BitVec.ofNat 32) ?_
  show min (val_main_call0_v5 (F := Ideal) Q C _).toInt.toNat (100000 - 1) = _
  rw [start_number, small_word]
  show min ((tenOf (scores Q C) q k).val : ℤ).toNat (100000 - 1) = _
  have h2 := (tenOf (scores Q C) q k).isLt
  rw [Int.toNat_natCast]
  omega

end

end Cert.Knn

end
-- ==== Proof.Precondition.lean ====
/-
  What the precondition says: for every query the tenth best score is positive, and every group of strided scores is
  sparse at it.
-/
module

public import proofs.«01_k».proof.Proof.Reference
public import proofs.«01_k».proof.Proof.Group
public import proofs.«01_k».proof.Proof.Gen.Pre_two_per_group
public import Idealize.ShloMosaic.Lib.IndicatorCount

@[expose] public section

set_option maxRecDepth 16384

noncomputable section

namespace Cert.Knn

open Idealize.ShloMosaic Idealize.ShloMosaic.Tactic
open Cert.Pre_two_per_group
open Cert.Pre_two_per_group.Gen

/-! ## The test of one group -/

/-- How many of a group's scores reach `t`. -/
def reaching (x : Fin 64 → EReal) (t : EReal) : ℕ := (Finset.univ.filter fun l => t ≤ x l).card

/-- The least of a group's scores that reach `t`. -/
def least (x : Fin 64 → EReal) (t : EReal) : EReal :=
  Finset.univ.fold min ⊤ fun l => if t ≤ x l then x l else ⊤

theorem le_least (x : Fin 64 → EReal) (t c : EReal) (h : ∀ l, t ≤ x l → c ≤ x l) : c ≤ least x t := by
  refine (Finset.le_fold_min c).mpr ⟨le_top, fun l _ => ?_⟩
  by_cases hl : t ≤ x l
  · rw [if_pos hl]; exact h l hl
  · rw [if_neg hl]; exact le_top

/-- A group with at most one score that reaches, or with two of which the lower is below the group's greatest, is
    sparse. -/
theorem sparse_of_test (x : Fin 64 → EReal) (t : EReal)
    (h : reaching x t ≤ 1 ∨ (reaching x t = 2 ∧ least x t < top x)) : Sparse x t where
  few := by
    rcases h with h | h
    · exact h.trans (by norm_num)
    · exact h.1.le
  differ l l' hl hl' e := by
    have ml : l ∈ Finset.univ.filter fun l => t ≤ x l := Finset.mem_filter.mpr ⟨Finset.mem_univ _, hl⟩
    have ml' : l' ∈ Finset.univ.filter fun l => t ≤ x l := Finset.mem_filter.mpr ⟨Finset.mem_univ _, hl'⟩
    rcases h with h | ⟨h, hlt⟩
    · exact Finset.card_le_one.mp h l ml l' ml'
    · by_contra hne
      have hsub : ({l, l'} : Finset (Fin 64)) ⊆ Finset.univ.filter fun l => t ≤ x l := by
        intro m hm
        rcases Finset.mem_insert.mp hm with rfl | hm
        · exact ml
        · rw [Finset.mem_singleton.mp hm]; exact ml'
      have heq := Finset.eq_of_subset_of_card_le hsub (by
        rw [Finset.card_pair hne]; exact h.le)
      have hall : ∀ m, t ≤ x m → x m = x l := by
        intro m hm
        have : m ∈ ({l, l'} : Finset (Fin 64)) := by rw [heq]; exact Finset.mem_filter.mpr ⟨Finset.mem_univ _, hm⟩
        rcases Finset.mem_insert.mp this with rfl | hm
        · rfl
        · rw [Finset.mem_singleton.mp hm]; exact e.symm
      have hmin : x l ≤ least x t := le_least x t _ fun m hm => (hall m hm).ge
      have hmax : top x ≤ x l := top_le x _ fun m => by
        by_cases hm : t ≤ x m
        · exact (hall m hm).le
        · exact (not_le.mp hm).le.trans hl
      exact absurd (lt_of_le_of_lt hmin (lt_of_lt_of_le hlt hmax)) (lt_irrefl _)

/-- A group whose scores below `t` are changed to others below `t` stays sparse. -/
theorem Sparse.of_changed {x y : Fin 64 → EReal} {t : EReal} (h : Sparse x t)
    (hc : ∀ l, y l = x l ∨ (y l < t ∧ x l < t)) : Sparse y t := by
  have he : ∀ l, t ≤ y l → y l = x l := fun l hl => (hc l).resolve_right fun h => absurd hl (not_le.mpr h.1)
  refine ⟨(Finset.card_le_card fun l hl => ?_).trans h.few, fun l l' hl hl' e => ?_⟩
  · have hl := (Finset.mem_filter.mp hl).2
    exact Finset.mem_filter.mpr ⟨Finset.mem_univ _, by rw [← he l hl]; exact hl⟩
  · refine h.differ l l' ?_ ?_ ?_
    · rw [← he l hl]; exact hl
    · rw [← he l' hl']; exact hl'
    · rw [← he l hl, ← he l' hl']; exact e

/-! ## The operations read at an index -/

theorem unbounded_eq : Ideal.ofBits FTy.f32 0x7F800000#32 = (⊤ : EReal) := by
  simp [Ideal.ofBits, Ideal.ieee]

theorem lowest_eq : Ideal.ofBits FTy.f32 0xFF800000#32 = (⊥ : EReal) := by
  simp [Ideal.ofBits, Ideal.ieee]

theorem drops_mid : S4096x13x64x128.Reduces [2] S4096x13x128 := by decide

theorem lift_mid (q : Fin 4096) (j : Fin 13) (g : Fin 128) (l : Fin 64) :
    drops_mid.lift (ix3 q j g) l = ix4 q j l g := by
  funext a
  fin_cases a <;> rfl

/-- A reduction along a group. -/
theorem reduce_mid {α : Type} (f : α → α → α) [Std.Commutative f] [Std.Associative f] (x : S4096x13x64x128.Idx → α)
    (init : S_.Idx → α) (q : Fin 4096) (j : Fin 13) (g : Fin 128) :
    Host.reduce f x init reducesTo_S4096x13x64x128_S4096x13x128_d2 h_S_ (ix3 q j g)
      = (Finset.univ : Finset (Fin 64)).fold f (init (Shape.Idx.first h_S_)) (fun l => x (ix4 q j l g)) := by
  rw [Host.reduce_eq_fold_single f x init _ drops_mid]
  exact congrArg (fun y => (Finset.univ : Finset (Fin 64)).fold f _ y) (funext fun l => congrArg x (lift_mid q j g l))

section
variable (x4 : FVec Ideal S4096x13x64x128 .f32) (x2 : FVec Ideal S4096 .f32) (q : Fin 4096) (j : Fin 13) (g : Fin 128)

/-- Which scores reach their query's threshold. -/
def reach : IVec S4096x13x64x128 1 :=
  cmpf .oge x4 (broadcastInDim S4096x13x64x128 ![0] bcast_S4096_S4096x13x64x128_0 x2)

theorem reach_at (l : Fin 64) :
    reach x4 x2 (ix4 q j l g) = BitVec.ofBool (decide (x2 (ix1 q) ≤ x4 (ix4 q j l g))) := by
  pointwise [reach]

/-- How many reach. -/
def counts : IVec S4096x13x128 32 :=
  Host.reduce IntOp.addi (extui 32 (reach x4 x2) natLt_1_32) (constantI S_ 32 0#32)
    reducesTo_S4096x13x64x128_S4096x13x128_d2 h_S_

theorem counts_at :
    counts x4 x2 (ix3 q j g) = BitVec.ofNat 32 (reaching (fun l => x4 (ix4 q j l g)) (x2 (ix1 q))) := by
  unfold counts
  rw [reduce_mid]
  refine (IndicatorCount.fold_addi_setWidth_eq_card (fun l => reach x4 x2 (ix4 q j l g)) Finset.univ).trans ?_
  unfold reaching
  refine congrArg (fun S : Finset (Fin 64) => BitVec.ofNat 32 S.card) (Finset.filter_congr fun l _ => ?_)
  rw [reach_at]
  by_cases h : x2 (ix1 q) ≤ x4 (ix4 q j l g)
  · simp [h]
  · simp [h]

/-- The greatest. -/
def greatests : FVec Ideal S4096x13x128 .f32 :=
  Host.reduce FloatOps.maximumf x4 (constant S_ .f32 0xFF800000#32) reducesTo_S4096x13x64x128_S4096x13x128_d2 h_S_

theorem greatests_at : greatests x4 (ix3 q j g) = top (fun l => x4 (ix4 q j l g)) := by
  unfold greatests
  rw [reduce_mid]
  exact congrArg (fun b : EReal => (Finset.univ : Finset (Fin 64)).fold max b fun l => x4 (ix4 q j l g)) lowest_eq

/-- The scores, with those that do not reach replaced by plus infinity. -/
def raised : FVec Ideal S4096x13x64x128 .f32 :=
  select (reach x4 x2) x4 (broadcastInDim S4096x13x64x128 ![] bcast_S_S4096x13x64x128 (constant S_ .f32 0x7F800000#32))

theorem raised_at (l : Fin 64) :
    raised x4 x2 (ix4 q j l g) = if x2 (ix1 q) ≤ x4 (ix4 q j l g) then x4 (ix4 q j l g) else (⊤ : EReal) := by
  pointwise [raised, reach]
  rw [unbounded_eq]

/-- The least that reach. -/
def leasts : FVec Ideal S4096x13x128 .f32 :=
  Host.reduce FloatOps.minimumf (raised x4 x2) (constant S_ .f32 0x7F800000#32)
    reducesTo_S4096x13x64x128_S4096x13x128_d2 h_S_

theorem leasts_at : leasts x4 x2 (ix3 q j g) = least (fun l => x4 (ix4 q j l g)) (x2 (ix1 q)) := by
  unfold leasts
  rw [reduce_mid]
  refine (congrArg (fun b : EReal => (Finset.univ : Finset (Fin 64)).fold min b
    fun l => raised x4 x2 (ix4 q j l g)) unbounded_eq).trans ?_
  exact congrArg (fun y : Fin 64 → EReal => (Finset.univ : Finset (Fin 64)).fold min ⊤ y)
    (funext fun l => raised_at x4 x2 q j g l)

/-- The last operations, at an index. -/
theorem part_at (a : IVec S4096x13x128 32) (b c : FVec Ideal S4096x13x128 .f32) (d : IVec S4096x13x128 1) :
    fn_part1 (F := Ideal) x2 a b c d (constantI S_ 32 2#32) (ix3 q j g)
      = IntOp.andi (BitVec.ofBool (decide (0 < x2 (ix1 q)))) (IntOp.ori (d (ix3 q j g))
        (IntOp.andi (IntOp.cmpi .eq (a (ix3 q j g)) 2#32)
          (BitVec.ofBool (decide (c (ix3 q j g) < b (ix3 q j g)))))) := by
  pointwise [fn_part1]

/-- Which groups hold at most one score that reaches. -/
def alone : IVec S4096x13x128 1 :=
  cmpi .sle (counts x4 x2) (broadcastInDim S4096x13x128 ![] bcast_S_S4096x13x128 (constantI S_ 32 1#32))

theorem alone_at : alone x4 x2 (ix3 q j g) = IntOp.cmpi .sle (counts x4 x2 (ix3 q j g)) 1#32 := by
  pointwise [alone]

theorem bit_iff (p : Prop) [Decidable p] : BitVec.ofBool (decide p) = 1#1 ↔ p := by
  by_cases h : p
  · simp [h]
  · simp [h]

/-- The test at one group: the threshold is positive and the group is sparse. -/
theorem test_at
    (h : fn_part1 (F := Ideal) x2 (counts x4 x2) (greatests x4) (leasts x4 x2) (alone x4 x2) (constantI S_ 32 2#32)
      (ix3 q j g) = 1#1) :
    0 < x2 (ix1 q) ∧ Sparse (fun l => x4 (ix4 q j l g)) (x2 (ix1 q)) := by
  have hc : reaching (fun l => x4 (ix4 q j l g)) (x2 (ix1 q)) ≤ 64 := by
    unfold reaching
    exact (Finset.card_le_univ _).trans (by simp)
  rw [part_at, alone_at, counts_at, greatests_at, leasts_at, IntOp.andi_eq_one, IntOp.ori_eq_one, IntOp.andi_eq_one,
    bit_iff, bit_iff, IntOp.cmpi_sle, IntOp.cmpi_eq, toInt_ofNat_small _ (by omega)] at h
  refine ⟨h.1, sparse_of_test _ _ ?_⟩
  rcases h.2 with h | ⟨h, h'⟩
  · left
    have : (1#32 : BitVec 32).toInt = 1 := by decide
    omega
  · exact Or.inr ⟨ofNat_inj_small _ 2 (by omega) (by norm_num) h, h'⟩

end

/-! ## The threshold and the groups -/

section
variable (Q : FVec Ideal S4096x128 .f32) (C : FVec Ideal S100000x128 .f32)

/-- The tenth best score of a query. -/
def tenth (q : Fin 4096) : EReal := score Q C q (tenOf (scores Q C) q 9)

/-- A group's scores, minus infinity where there is no candidate. -/
def groupScore (q : Fin 4096) (j : Fin 13) (g : Fin 128) (l : Fin 64) : EReal :=
  if h : j.val * 8192 + l.val * 128 + g.val < 100000 then score Q C q ⟨j.val * 8192 + l.val * 128 + g.val, h⟩ else ⊥

/-- The precondition's own product is the table of the scores. -/
theorem dots_scores : Host.dotGeneral dot_S4096x128_S100000x128_S4096x100000_1_1_0_0_n_n none Q C = scores Q C := by
  funext i
  rw [show i = ix2 (i 0) (i 1) from eq_ix2 (n0 := 4096) (n1 := 100000) i]
  show _ = score Q C (i 0) (i 1)
  generalize (i 0 : Fin 4096) = q
  generalize (i 1 : Fin 100000) = n
  unfold score
  pointwise

/-- The thresholds. -/
def thresholds : FVec Ideal S4096 .f32 :=
  shapeCast S4096 (extractStridedSlice S4096x1 ![0, 9]
    (Host.topK S4096x10 1 (FloatOps.cmpfTotal .gt) (scores Q C) sliceFits_S4096x100000_S4096x10).1
    slices_S4096x10_S4096x1_0_9) shapeCasts_S4096x1_S4096

theorem ninth_place (x : FVec Ideal S4096x10 .f32) (q : Fin 4096) :
    shapeCast S4096 (extractStridedSlice S4096x1 ![0, 9] x slices_S4096x10_S4096x1_0_9) shapeCasts_S4096x1_S4096 (ix1 q)
      = x (ix2 q 9) := by
  pointwise

theorem thresholds_at (q : Fin 4096) : thresholds Q C (ix1 q) = tenth Q C q :=
  (ninth_place _ q).trans (topK_values (scores Q C) _ q 9)

/-- The scores in their groups. -/
def groups : FVec Ideal S4096x13x64x128 .f32 :=
  shapeCast S4096x13x64x128 (pad S4096x106496 ![0, 0] ![0, 6496] ![0, 0] (scores Q C) (constant S_ .f32 0xFF800000#32)
    pads_S4096x100000_S4096x106496_000_064960 h_S_) shapeCasts_S4096x106496_S4096x13x64x128

theorem in_group (x : FVec Ideal S4096x100000 .f32) (v : FVec Ideal S_ .f32) (q : Fin 4096) (j : Fin 13) (l : Fin 64)
    (g : Fin 128) :
    shapeCast S4096x13x64x128 (pad S4096x106496 ![0, 0] ![0, 6496] ![0, 0] x v
        pads_S4096x100000_S4096x106496_000_064960 h_S_) shapeCasts_S4096x106496_S4096x13x64x128 (ix4 q j l g)
      = if h : j.val * 8192 + l.val * 128 + g.val < 100000 then x (ix2 q ⟨j.val * 8192 + l.val * 128 + g.val, h⟩)
        else v (Shape.Idx.first h_S_) := by
  pointwise

theorem groups_at (q : Fin 4096) (j : Fin 13) (l : Fin 64) (g : Fin 128) :
    groups Q C (ix4 q j l g) = groupScore Q C q j g l := by
  refine (in_group _ _ q j l g).trans ?_
  unfold groupScore
  by_cases h : j.val * 8192 + l.val * 128 + g.val < 100000
  · rw [dif_pos h, dif_pos h]; rfl
  · rw [dif_neg h, dif_neg h]; exact lowest_eq

/-- The precondition is the test of every group. -/
theorem fn_eq : Cert.Pre_two_per_group.fn (F := Ideal) Q C
    = fn_part1 (F := Ideal) (thresholds Q C) (counts (groups Q C) (thresholds Q C)) (greatests (groups Q C))
      (leasts (groups Q C) (thresholds Q C)) (alone (groups Q C) (thresholds Q C)) (constantI S_ 32 2#32) := by
  unfold Cert.Pre_two_per_group.fn
  simp only []
  rw [dots_scores]
  rfl

/-- Under the precondition every query's tenth score is positive, and every group is sparse at it. -/
theorem of_pre (h : Cert.Pre_two_per_group.fn (F := Ideal) Q C = fun _ => 1#1) (q : Fin 4096) (j : Fin 13)
    (g : Fin 128) : 0 < tenth Q C q ∧ Sparse (groupScore Q C q j g) (tenth Q C q) := by
  rw [fn_eq] at h
  have ht := test_at (groups Q C) (thresholds Q C) q j g (congrFun h (ix3 q j g))
  rw [thresholds_at] at ht
  refine ⟨ht.1, ?_⟩
  have he : (fun l => groups Q C (ix4 q j l g)) = groupScore Q C q j g := funext fun l => groups_at Q C q j l g
  rw [he] at ht
  exact ht.2

end

end Cert.Knn

end
-- ==== Proof.Equation.lean ====
/-
  The equation: under the precondition the kernel's results are the reference's.
-/
module

public import proofs.«01_k».proof.Proof.KernelRun
public import proofs.«01_k».proof.Proof.Precondition

@[expose] public section

set_option maxRecDepth 16384

noncomputable section

namespace Cert.Knn

open Idealize.ShloMosaic Idealize.ShloMosaic.Tactic

/-! ## Columns and words -/

/-- The column of a place in a block. -/
def col (j : Fin 13) (p : Fin 384) : Fin 4992 := ⟨j.val * 384 + p.val, by omega⟩

theorem colBlock_col (j : Fin 13) (p : Fin 384) : colBlock (col j p) = j :=
  Fin.ext (show (j.val * 384 + p.val) / 384 = j.val by omega)

theorem colIn_col (j : Fin 13) (p : Fin 384) : colIn (col j p) = p :=
  Fin.ext (show (j.val * 384 + p.val) % 384 = p.val by omega)

/-- The columns of a group's first and second. -/
def firstCol (g : Fin 128) : Fin 384 := ⟨g.val, by omega⟩
def secondCol (g : Fin 128) : Fin 384 := ⟨128 + g.val, by omega⟩

/-- The kernel's sum of words is the number's word. -/
theorem number_word (j l g : ℕ) :
    BitVec.ofNat 32 j * 8192#32 + BitVec.ofNat 32 l * 128#32 + BitVec.ofNat 32 g
      = BitVec.ofNat 32 (j * 8192 + l * 128 + g) := by
  rw [BitVec.ofNat_add, BitVec.ofNat_add, BitVec.ofNat_mul, BitVec.ofNat_mul]

section
variable (j : BitVec 32) (y : Fin 128 → Fin 64 → EReal) (g : Fin 128)

theorem blockVal_first : blockVal y (firstCol g) = top (y g) := dif_pos g.isLt

theorem blockId_first : blockId j y (firstCol g)
    = j * 8192#32 + placeOf (y g) * 128#32 + BitVec.ofNat 32 g.val := dif_pos g.isLt

theorem second_place (h : (secondCol g).val - 128 < 128) : (⟨(secondCol g).val - 128, h⟩ : Fin 128) = g :=
  Fin.ext (Nat.add_sub_cancel_left 128 g.val)

theorem blockVal_second : blockVal y (secondCol g) = top (lower (y g)) := by
  have h1 : ¬(secondCol g).val < 128 := not_lt.mpr (Nat.le_add_right 128 g.val)
  have h2 : (secondCol g).val - 128 < 128 := by rw [show (secondCol g).val = 128 + g.val from rfl]; omega
  unfold blockVal
  rw [dif_neg h1, dif_pos h2, second_place]

theorem blockId_second : blockId j y (secondCol g)
    = j * 8192#32 + placeOf (lower (y g)) * 128#32 + BitVec.ofNat 32 g.val := by
  have h1 : ¬(secondCol g).val < 128 := not_lt.mpr (Nat.le_add_right 128 g.val)
  have h2 : (secondCol g).val - 128 < 128 := by rw [show (secondCol g).val = 128 + g.val from rfl]; omega
  unfold blockId
  rw [dif_neg h1, dif_pos h2, second_place]
  rw [show (secondCol g).val - 128 = g.val from Nat.add_sub_cancel_left 128 g.val]

/-- A column holds a group's first, a group's second, or a group's third. -/
theorem column_cases (p : Fin 384) :
    (∃ g, p = firstCol g) ∨ (∃ g, p = secondCol g) ∨ ∃ g, blockVal y p = top (lower (lower (y g))) := by
  by_cases h1 : p.val < 128
  · exact Or.inl ⟨⟨p.val, h1⟩, rfl⟩
  · by_cases h2 : p.val - 128 < 128
    · exact Or.inr (Or.inl ⟨⟨p.val - 128, h2⟩, Fin.ext (show p.val = 128 + (p.val - 128) by omega)⟩)
    · refine Or.inr (Or.inr ⟨⟨p.val - 128 - 128, by omega⟩, ?_⟩)
      unfold blockVal
      rw [dif_neg h1, dif_neg h2]

end

/-! ## The groups of the kernel -/

section
variable (Q : FVec Ideal Cert.KernelIdeal.S4096x128 .f32) (C : FVec Ideal Cert.KernelIdeal.S100000x128 .f32)

/-- The kernel's score of a place: the candidate's, or zero where there is none. -/
theorem place_score (q : Fin 4096) (j : Fin 13) (g : Fin 128) (l : Fin 64) :
    arrayScore Q (padded C) q j g l
      = if h : j.val * 8192 + l.val * 128 + g.val < 100000 then score Q C q ⟨j.val * 8192 + l.val * 128 + g.val, h⟩
        else 0 := by
  unfold arrayScore score
  by_cases h : j.val * 8192 + l.val * 128 + g.val < 100000
  · rw [dif_pos h]
    refine Finset.sum_congr rfl fun d _ => ?_
    rw [padded_at, dif_pos h]
  · rw [dif_neg h]
    refine Finset.sum_eq_zero fun d _ => ?_
    rw [padded_at, dif_neg h, mul_zero]

section
variable {Q C} (hp : Cert.Pre_two_per_group.fn (F := Ideal) Q C = fun _ => 1#1) (q : Fin 4096)
include hp

theorem tenth_pos : 0 < tenth Q C q := (of_pre Q C hp q 0 0).1

theorem tenth_above : ⊥ < tenth Q C q := lt_trans EReal.bot_lt_zero (tenth_pos hp q)

/-- The kernel's groups are sparse. -/
theorem kernel_sparse (j : Fin 13) (g : Fin 128) : Sparse (arrayScore Q (padded C) q j g) (tenth Q C q) := by
  refine (of_pre Q C hp q j g).2.of_changed fun l => ?_
  rw [place_score]
  unfold groupScore
  by_cases h : j.val * 8192 + l.val * 128 + g.val < 100000
  · rw [dif_pos h, dif_pos h]; exact Or.inl rfl
  · rw [dif_neg h, dif_neg h]; exact Or.inr ⟨tenth_pos hp q, tenth_above hp q⟩

/-- A score of the kernel's that reaches the tenth is a candidate's. -/
theorem reaching_candidate (j : Fin 13) (g : Fin 128) (l : Fin 64) (h : tenth Q C q ≤ arrayScore Q (padded C) q j g l) :
    ∃ n : Fin 100000, n.val = j.val * 8192 + l.val * 128 + g.val ∧ arrayScore Q (padded C) q j g l = score Q C q n := by
  rw [place_score] at h ⊢
  by_cases hn : j.val * 8192 + l.val * 128 + g.val < 100000
  · exact ⟨⟨_, hn⟩, rfl, dif_pos hn⟩
  · rw [dif_neg hn] at h
    exact absurd (lt_of_lt_of_le (tenth_pos hp q) h) (lt_irrefl _)

/-- The shortlist lists the candidates whose score reaches the tenth best. -/
theorem shortlist_lists : Lists (score Q C q) (tenth Q C q) (fun _ => True) (shortId Q (padded C) q)
    (shortVal Q (padded C) q) where
  sound c h := by
    have hb := tenth_above hp q
    unfold shortVal at h ⊢
    unfold shortId
    rcases column_cases (arrayScore Q (padded C) q (colBlock c)) (colIn c) with ⟨g, hg⟩ | ⟨g, hg⟩ | ⟨g, hg⟩
    · rw [hg, blockVal_first] at h ⊢
      rw [blockId_first]
      obtain ⟨l, e, p⟩ := first_sound hb (kernel_sparse hp q (colBlock c) g) h
      obtain ⟨n, hn, en⟩ := reaching_candidate hp q (colBlock c) g l (e ▸ h)
      exact ⟨n, trivial, e.trans en, by rw [p, number_word, hn]⟩
    · rw [hg, blockVal_second] at h ⊢
      rw [blockId_second]
      obtain ⟨l, e, p⟩ := second_sound hb (kernel_sparse hp q (colBlock c) g) h
      obtain ⟨n, hn, en⟩ := reaching_candidate hp q (colBlock c) g l (e ▸ h)
      exact ⟨n, trivial, e.trans en, by rw [p, number_word, hn]⟩
    · rw [hg] at h
      exact absurd (third_lt hb (kernel_sparse hp q (colBlock c) g)) (not_lt.mpr h)
  complete n _ h := by
    have hb := tenth_above hp q
    have hn := n.isLt
    have hj : n.val / 8192 < 13 := by omega
    have hl : n.val % 8192 / 128 < 64 := by omega
    have hg : n.val % 128 < 128 := by omega
    have hplace : n.val / 8192 * 8192 + n.val % 8192 / 128 * 128 + n.val % 128 = n.val := by omega
    have e : arrayScore Q (padded C) q ⟨n.val / 8192, hj⟩ ⟨n.val % 128, hg⟩ ⟨n.val % 8192 / 128, hl⟩ = score Q C q n := by
      rw [place_score, dif_pos (by rw [hplace]; exact hn)]
      exact congrArg (score Q C q) (Fin.ext hplace)
    rcases complete hb (kernel_sparse hp q ⟨n.val / 8192, hj⟩ ⟨n.val % 128, hg⟩) ⟨n.val % 8192 / 128, hl⟩
      (by rw [e]; exact h) with ⟨ev, ep⟩ | ⟨ev, ep⟩
    · refine ⟨col ⟨n.val / 8192, hj⟩ (firstCol ⟨n.val % 128, hg⟩), ?_, ?_⟩
      · unfold shortVal
        rw [colBlock_col, colIn_col, blockVal_first, ev, e]
      · unfold shortId
        rw [colBlock_col, colIn_col, blockId_first, ep, number_word, hplace]
    · refine ⟨col ⟨n.val / 8192, hj⟩ (secondCol ⟨n.val % 128, hg⟩), ?_, ?_⟩
      · unfold shortVal
        rw [colBlock_col, colIn_col, blockVal_second, ev, e]
      · unfold shortId
        rw [colBlock_col, colIn_col, blockId_second, ep, number_word, hplace]

/-- The rounds over the shortlist find the best ten candidates. -/
theorem kernel_tops (k : Fin 10) :
    kernelVal Q C q k = score Q C q (tenOf (scores Q C) q k)
      ∧ kernelId Q C q k = BitVec.ofNat 32 (tenOf (scores Q C) q k).val :=
  rounds_spec (by norm_num) (tenOf_best (scores Q C) q) (tenth_above hp q)
    (fun r => (tenOf_best (scores Q C) q).antitone r 9 (Fin.le_last r)) (shortlist_lists hp q) k

/-- The first results agree. -/
theorem values_agree : (fun i : Cert.KernelIdeal.S4096x10.Idx => kernelVal Q C (i 0) (i 1))
    = Cert.ReferenceIdeal.Read.val_main_values (F := Ideal) Q C := by
  funext i
  rw [show i = ix2 (i 0) (i 1) from eq_ix2 (n0 := 4096) (n1 := 10) i]
  exact (kernel_tops hp (i 0) (i 1)).1.trans (reference_values Q C (i 0) (i 1)).symm

/-- The second results agree. -/
theorem ids_agree : (fun i : Cert.KernelIdeal.S4096x10.Idx => kernelId Q C (i 0) (i 1))
    = Cert.ReferenceIdeal.Read.val_main_v3 (F := Ideal) Q C := by
  funext i
  rw [show i = ix2 (i 0) (i 1) from eq_ix2 (n0 := 4096) (n1 := 10) i]
  exact (kernel_tops hp (i 0) (i 1)).2.trans (reference_ids Q C (i 0) (i 1)).symm

end

end

end Cert.Knn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_two_per_group
public import proofs.«01_k».proof.Proof.Equation
public import Idealize.ShloMosaic.Adequacy
public import Idealize.ShloMosaic.Init

@[expose] public section

noncomputable section

namespace Cert.Proof

open Idealize.ShloMosaic Idealize.SL.Sem

/-- The reference runs, its arguments end unchanged, and it declares no semaphore. -/
theorem reference_frame : Cert.quiescent_ReferenceIdeal (hReferenceIdeal := Cert.ReferenceIdeal.Gen.facts) := by
  intro m ρ _
  exact (θ_run Cert.ReferenceIdeal.defs _ _).mono (fun r h => ⟨fun c => ⟨(h c).2.2.1, (h c).2.2.2⟩,
      sem_eq_zero_of_no_sems (by decide) r.2⟩)
    (Cert.ReferenceIdeal.Value.run (F := Ideal) m ρ)

/-- Under the precondition the kernel and the reference, from equal arguments, end with equal results. -/
theorem algebraic : Cert.algebraic_KernelIdeal_ReferenceIdeal_pre_two_per_group
    (hKernelIdeal := Cert.KernelIdeal.Gen.facts) (hReferenceIdeal := Cert.ReferenceIdeal.Gen.facts)
    (hPre_two_per_group := Cert.Pre_two_per_group.Gen.facts) := by
  intro m g m' g' hp hargs
  refine ⟨_, _, Cert.Knn.kernel_run m g,
    (θ_run Cert.ReferenceIdeal.defs _ _).mono (fun r h c => ⟨(h c).1.trans ?_, (h c).2.1.trans ?_, (h c).2.2⟩)
      (Cert.ReferenceIdeal.Value.run (F := Ideal) m' g')⟩
  · rw [Cert.ReferenceIdeal.Read.val_main_values_eq, (hargs c).1, (hargs c).2]
    exact (Cert.Knn.values_agree (hp c)).symm
  · rw [Cert.ReferenceIdeal.Read.val_main_v3_eq, (hargs c).1, (hargs c).2]
    exact (Cert.Knn.ids_agree (hp c)).symm

theorem claim : Cert.Claim :=
  ⟨Cert.Kernel.Gen.facts, Cert.KernelIdeal.Gen.facts, Cert.ReferenceIdeal.Gen.facts, Cert.Pre_two_per_group.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic⟩

end Cert.Proof

end
